-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 1024]⟩ ⟨2, ![16384, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S2816x1024 : Shape := ⟨2, ![2816, 1024]⟩
abbrev S2688x1024 : Shape := ⟨2, ![2688, 1024]⟩
abbrev S4x768x1024 : Shape := ⟨3, ![4, 768, 1024]⟩
abbrev S4 : Shape := ⟨1, ![4]⟩
abbrev S22 : Shape := ⟨1, ![22]⟩
abbrev S21 : Shape := ⟨1, ![21]⟩
abbrev S_ : Shape := ⟨0, ![]⟩
abbrev S1 : Shape := ⟨1, ![1]⟩
abbrev S128x1024 : Shape := ⟨2, ![128, 1024]⟩
abbrev S1x640x1024 : Shape := ⟨3, ![1, 640, 1024]⟩
abbrev S640x1024 : Shape := ⟨2, ![640, 1024]⟩
abbrev S1x768x1024 : Shape := ⟨3, ![1, 768, 1024]⟩
abbrev S768x1024 : Shape := ⟨2, ![768, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .local _ .vmem, ⟨0, _⟩ => ⟨S2816x1024, .f32⟩
  | .local _ .vmem, ⟨1, _⟩ => ⟨S2688x1024, .f32⟩
  | .local _ .vmem, ⟨2, _⟩ => ⟨S2688x1024, .f32⟩
  | .local _ .vmem, ⟨3, _⟩ => ⟨S4x768x1024, .f32⟩
  | _, _ => ⟨S8192x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v27 : BitVec 32 := Scalar.muli v2 c8_i32_12
  let v28 : BitVec 32 := Scalar.addi c0_i32_13 v27
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_14 : BitVec 32 := 4#32
  let v29 : BitVec 32 := Scalar.muli v18 c4_i32_14
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.muli v8 c1_i32_15
  let v32 : BitVec 32 := Scalar.addi v30 v31
  v32.toNat
def k0_dev2 (d0 : Dev nD) : Nat :=
  let c0_i32_18 : BitVec 32 := 0#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_8 v2
  let c8_i32_17 : BitVec 32 := 8#32
  let v33 : BitVec 32 := Scalar.muli v19 c8_i32_17
  let v34 : BitVec 32 := Scalar.addi c0_i32_18 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev3 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v39 : BitVec 32 := Scalar.muli v2 c8_i32_22
  let v40 : BitVec 32 := Scalar.addi c0_i32_23 v39
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_25 : BitVec 32 := 1#32
  let v43 : BitVec 32 := Scalar.muli v12 c1_i32_25
  let v44 : BitVec 32 := Scalar.addi v42 v43
  v44.toNat
def k0_off1 (d0 : Dev nD) (c0_i32_26 : BitVec 32) (c768_i32 : BitVec 32) (c0_i32_28 : BitVec 32) : Fin 2 → Nat :=
  let c2048_i32 : BitVec 32 := 2048#32
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v15 : BitVec 32 := Scalar.muli c2_i32_6 v9
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.addi v2 v9
  let c2_i32_5 : BitVec 32 := 2#32
  let v14 : BitVec 32 := Scalar.remsi v13 c2_i32_5
  let v16 : BitVec 32 := Scalar.addi v15 v14
  let v45 : BitVec 32 := Scalar.addi v16 c0_i32_26
  let c4_i32_27 : BitVec 32 := 4#32
  let v46 : BitVec 32 := Scalar.remsi v45 c4_i32_27
  let v47 : BitVec 32 := Scalar.muli c2048_i32 v46
  let v48 : BitVec 32 := Scalar.addi v47 c768_i32
  let v49 : BitVec 32 := Scalar.addi v48 c0_i32_28
  let c0_i32_37 : BitVec 32 := 0#32
  ![v49.toNat, 0]
def k0_off1_at (r : Fin 22) : BitVec 32 × BitVec 32 × BitVec 32 :=
  if r.val < 11 then
    if r.val < 5 then
      if r.val < 2 then
        if r.val < 1 then
          (0#32, 768#32, 0#32)
        else
          (0#32, 768#32, 128#32)
      else
        if r.val < 3 then
          (0#32, 768#32, 256#32)
        else
          if r.val < 4 then
            (0#32, 768#32, 384#32)
          else
            (0#32, 768#32, 512#32)
    else
      if r.val < 8 then
        if r.val < 6 then
          (0#32, 1408#32, 0#32)
        else
          if r.val < 7 then
            (0#32, 1408#32, 128#32)
          else
            (0#32, 1408#32, 256#32)
      else
        if r.val < 9 then
          (0#32, 1408#32, 384#32)
        else
          if r.val < 10 then
            (0#32, 1408#32, 512#32)
          else
            (0#32, 0#32, 0#32)
  else
    if r.val < 16 then
      if r.val < 13 then
        if r.val < 12 then
          (0#32, 0#32, 128#32)
        else
          (0#32, 0#32, 256#32)
      else
        if r.val < 14 then
          (0#32, 0#32, 384#32)
        else
          if r.val < 15 then
            (0#32, 0#32, 512#32)
          else
            (0#32, 0#32, 640#32)
    else
      if r.val < 19 then
        if r.val < 17 then
          (1#32, 0#32, 0#32)
        else
          if r.val < 18 then
            (1#32, 0#32, 128#32)
          else
            (1#32, 0#32, 256#32)
      else
        if r.val < 20 then
          (1#32, 0#32, 384#32)
        else
          if r.val < 21 then
            (1#32, 0#32, 512#32)
          else
            (1#32, 0#32, 640#32)
def k0_dev4 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v50 : BitVec 32 := Scalar.muli v2 c8_i32_31
  let v51 : BitVec 32 := Scalar.addi c0_i32_32 v50
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_33 : BitVec 32 := 4#32
  let v52 : BitVec 32 := Scalar.muli v18 c4_i32_33
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v54 : BitVec 32 := Scalar.muli v8 c1_i32_34
  let v55 : BitVec 32 := Scalar.addi v53 v54
  v55.toNat
def k0_dev5 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v67 : BitVec 32 := Scalar.muli v2 c8_i32_44
  let v68 : BitVec 32 := Scalar.addi c0_i32_45 v67
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_46 : BitVec 32 := 4#32
  let v69 : BitVec 32 := Scalar.muli v18 c4_i32_46
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v71 : BitVec 32 := Scalar.muli v8 c1_i32_47
  let v72 : BitVec 32 := Scalar.addi v70 v71
  v72.toNat
def k0_dev6 (d0 : Dev nD) : Nat :=
  let c0_i32_58 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_57 : BitVec 32 := 8#32
  let v84 : BitVec 32 := Scalar.muli v2 c8_i32_57
  let v85 : BitVec 32 := Scalar.addi c0_i32_58 v84
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_59 : BitVec 32 := 4#32
  let v86 : BitVec 32 := Scalar.muli v18 c4_i32_59
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v88 : BitVec 32 := Scalar.muli v8 c1_i32_60
  let v89 : BitVec 32 := Scalar.addi v87 v88
  v89.toNat
def k0_dev7 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v101 : BitVec 32 := Scalar.muli v2 c8_i32_70
  let v102 : BitVec 32 := Scalar.addi c0_i32_71 v101
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_72 : BitVec 32 := 4#32
  let v103 : BitVec 32 := Scalar.muli v18 c4_i32_72
  let v104 : BitVec 32 := Scalar.addi v102 v103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v105 : BitVec 32 := Scalar.muli v8 c1_i32_73
  let v106 : BitVec 32 := Scalar.addi v104 v105
  v106.toNat
def k0_dev8 (d0 : Dev nD) : Nat :=
  let c0_i32_84 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_83 : BitVec 32 := 8#32
  let v118 : BitVec 32 := Scalar.muli v2 c8_i32_83
  let v119 : BitVec 32 := Scalar.addi c0_i32_84 v118
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_85 : BitVec 32 := 4#32
  let v120 : BitVec 32 := Scalar.muli v18 c4_i32_85
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_86 : BitVec 32 := 1#32
  let v122 : BitVec 32 := Scalar.muli v8 c1_i32_86
  let v123 : BitVec 32 := Scalar.addi v121 v122
  v123.toNat
def k0_dev9 (d0 : Dev nD) : Nat :=
  let c0_i32_96 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_95 : BitVec 32 := 8#32
  let v135 : BitVec 32 := Scalar.muli v2 c8_i32_95
  let v136 : BitVec 32 := Scalar.addi c0_i32_96 v135
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_97 : BitVec 32 := 4#32
  let v137 : BitVec 32 := Scalar.muli v18 c4_i32_97
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v139 : BitVec 32 := Scalar.muli v8 c1_i32_98
  let v140 : BitVec 32 := Scalar.addi v138 v139
  v140.toNat
def k0_dev10 (d0 : Dev nD) : Nat :=
  let c0_i32_108 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_107 : BitVec 32 := 8#32
  let v152 : BitVec 32 := Scalar.muli v2 c8_i32_107
  let v153 : BitVec 32 := Scalar.addi c0_i32_108 v152
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_109 : BitVec 32 := 4#32
  let v154 : BitVec 32 := Scalar.muli v18 c4_i32_109
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v156 : BitVec 32 := Scalar.muli v8 c1_i32_110
  let v157 : BitVec 32 := Scalar.addi v155 v156
  v157.toNat
def k0_dev11 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v169 : BitVec 32 := Scalar.muli v2 c8_i32_120
  let v170 : BitVec 32 := Scalar.addi c0_i32_121 v169
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_122 : BitVec 32 := 4#32
  let v171 : BitVec 32 := Scalar.muli v18 c4_i32_122
  let v172 : BitVec 32 := Scalar.addi v170 v171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v173 : BitVec 32 := Scalar.muli v8 c1_i32_123
  let v174 : BitVec 32 := Scalar.addi v172 v173
  v174.toNat
def k0_dev12 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v186 : BitVec 32 := Scalar.muli v2 c8_i32_133
  let v187 : BitVec 32 := Scalar.addi c0_i32_134 v186
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_135 : BitVec 32 := 4#32
  let v188 : BitVec 32 := Scalar.muli v18 c4_i32_135
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v190 : BitVec 32 := Scalar.muli v8 c1_i32_136
  let v191 : BitVec 32 := Scalar.addi v189 v190
  v191.toNat
def k0_dev13 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v203 : BitVec 32 := Scalar.muli v2 c8_i32_145
  let v204 : BitVec 32 := Scalar.addi c0_i32_146 v203
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_147 : BitVec 32 := 4#32
  let v205 : BitVec 32 := Scalar.muli v18 c4_i32_147
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v207 : BitVec 32 := Scalar.muli v8 c1_i32_148
  let v208 : BitVec 32 := Scalar.addi v206 v207
  v208.toNat
def k0_dev14 (d0 : Dev nD) : Nat :=
  let c0_i32_158 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_157 : BitVec 32 := 8#32
  let v220 : BitVec 32 := Scalar.muli v2 c8_i32_157
  let v221 : BitVec 32 := Scalar.addi c0_i32_158 v220
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_159 : BitVec 32 := 4#32
  let v222 : BitVec 32 := Scalar.muli v18 c4_i32_159
  let v223 : BitVec 32 := Scalar.addi v221 v222
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_160 : BitVec 32 := 1#32
  let v224 : BitVec 32 := Scalar.muli v8 c1_i32_160
  let v225 : BitVec 32 := Scalar.addi v223 v224
  v225.toNat
def k0_dev15 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v237 : BitVec 32 := Scalar.muli v2 c8_i32_169
  let v238 : BitVec 32 := Scalar.addi c0_i32_170 v237
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_171 : BitVec 32 := 4#32
  let v239 : BitVec 32 := Scalar.muli v18 c4_i32_171
  let v240 : BitVec 32 := Scalar.addi v238 v239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v241 : BitVec 32 := Scalar.muli v8 c1_i32_172
  let v242 : BitVec 32 := Scalar.addi v240 v241
  v242.toNat
def k0_dev16 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v254 : BitVec 32 := Scalar.muli v2 c8_i32_182
  let v255 : BitVec 32 := Scalar.addi c0_i32_183 v254
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_184 : BitVec 32 := 4#32
  let v256 : BitVec 32 := Scalar.muli v18 c4_i32_184
  let v257 : BitVec 32 := Scalar.addi v255 v256
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v258 : BitVec 32 := Scalar.muli v8 c1_i32_185
  let v259 : BitVec 32 := Scalar.addi v257 v258
  v259.toNat
def k0_dev17 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v271 : BitVec 32 := Scalar.muli v2 c8_i32_194
  let v272 : BitVec 32 := Scalar.addi c0_i32_195 v271
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_196 : BitVec 32 := 4#32
  let v273 : BitVec 32 := Scalar.muli v18 c4_i32_196
  let v274 : BitVec 32 := Scalar.addi v272 v273
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v275 : BitVec 32 := Scalar.muli v8 c1_i32_197
  let v276 : BitVec 32 := Scalar.addi v274 v275
  v276.toNat
def k0_dev18 (d0 : Dev nD) : Nat :=
  let c0_i32_207 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_206 : BitVec 32 := 8#32
  let v288 : BitVec 32 := Scalar.muli v2 c8_i32_206
  let v289 : BitVec 32 := Scalar.addi c0_i32_207 v288
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_208 : BitVec 32 := 4#32
  let v290 : BitVec 32 := Scalar.muli v18 c4_i32_208
  let v291 : BitVec 32 := Scalar.addi v289 v290
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_209 : BitVec 32 := 1#32
  let v292 : BitVec 32 := Scalar.muli v8 c1_i32_209
  let v293 : BitVec 32 := Scalar.addi v291 v292
  v293.toNat
def k0_dev19 (d0 : Dev nD) : Nat :=
  let c0_i32_219 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_218 : BitVec 32 := 8#32
  let v305 : BitVec 32 := Scalar.muli v2 c8_i32_218
  let v306 : BitVec 32 := Scalar.addi c0_i32_219 v305
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_220 : BitVec 32 := 4#32
  let v307 : BitVec 32 := Scalar.muli v18 c4_i32_220
  let v308 : BitVec 32 := Scalar.addi v306 v307
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_221 : BitVec 32 := 1#32
  let v309 : BitVec 32 := Scalar.muli v8 c1_i32_221
  let v310 : BitVec 32 := Scalar.addi v308 v309
  v310.toNat
def k0_dev20 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v322 : BitVec 32 := Scalar.muli v2 c8_i32_230
  let v323 : BitVec 32 := Scalar.addi c0_i32_231 v322
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_232 : BitVec 32 := 4#32
  let v324 : BitVec 32 := Scalar.muli v18 c4_i32_232
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v326 : BitVec 32 := Scalar.muli v8 c1_i32_233
  let v327 : BitVec 32 := Scalar.addi v325 v326
  v327.toNat
def k0_dev21 (d0 : Dev nD) : Nat :=
  let c0_i32_244 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_243 : BitVec 32 := 8#32
  let v339 : BitVec 32 := Scalar.muli v2 c8_i32_243
  let v340 : BitVec 32 := Scalar.addi c0_i32_244 v339
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_245 : BitVec 32 := 4#32
  let v341 : BitVec 32 := Scalar.muli v18 c4_i32_245
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_246 : BitVec 32 := 1#32
  let v343 : BitVec 32 := Scalar.muli v8 c1_i32_246
  let v344 : BitVec 32 := Scalar.addi v342 v343
  v344.toNat
def k0_dev22 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v356 : BitVec 32 := Scalar.muli v2 c8_i32_255
  let v357 : BitVec 32 := Scalar.addi c0_i32_256 v356
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_257 : BitVec 32 := 4#32
  let v358 : BitVec 32 := Scalar.muli v18 c4_i32_257
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v360 : BitVec 32 := Scalar.muli v8 c1_i32_258
  let v361 : BitVec 32 := Scalar.addi v359 v360
  v361.toNat
def k0_dev23 (d0 : Dev nD) : Nat :=
  let c0_i32_268 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_267 : BitVec 32 := 8#32
  let v373 : BitVec 32 := Scalar.muli v2 c8_i32_267
  let v374 : BitVec 32 := Scalar.addi c0_i32_268 v373
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_269 : BitVec 32 := 4#32
  let v375 : BitVec 32 := Scalar.muli v18 c4_i32_269
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_270 : BitVec 32 := 1#32
  let v377 : BitVec 32 := Scalar.muli v8 c1_i32_270
  let v378 : BitVec 32 := Scalar.addi v376 v377
  v378.toNat
def k0_dev24 (d0 : Dev nD) : Nat :=
  let c0_i32_280 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_279 : BitVec 32 := 8#32
  let v390 : BitVec 32 := Scalar.muli v2 c8_i32_279
  let v391 : BitVec 32 := Scalar.addi c0_i32_280 v390
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_281 : BitVec 32 := 4#32
  let v392 : BitVec 32 := Scalar.muli v18 c4_i32_281
  let v393 : BitVec 32 := Scalar.addi v391 v392
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_282 : BitVec 32 := 1#32
  let v394 : BitVec 32 := Scalar.muli v8 c1_i32_282
  let v395 : BitVec 32 := Scalar.addi v393 v394
  v395.toNat
def k0_dev25 (d0 : Dev nD) : Nat :=
  let c0_i32_292 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_291 : BitVec 32 := 8#32
  let v407 : BitVec 32 := Scalar.muli v2 c8_i32_291
  let v408 : BitVec 32 := Scalar.addi c0_i32_292 v407
  let c1_i32_7 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_7 v5
  let c4_i32_293 : BitVec 32 := 4#32
  let v409 : BitVec 32 := Scalar.muli v18 c4_i32_293
  let v410 : BitVec 32 := Scalar.addi v408 v409
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_294 : BitVec 32 := 1#32
  let v411 : BitVec 32 := Scalar.muli v8 c1_i32_294
  let v412 : BitVec 32 := Scalar.addi v410 v411
  v412.toNat
def k0_off2 (d0 : Dev nD) (c0_i32_297 : BitVec 32) (c768_i32_300 : BitVec 32) : Fin 2 → Nat :=
  let c2048_i32_299 : BitVec 32 := 2048#32
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v15 : BitVec 32 := Scalar.muli c2_i32_6 v9
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.addi v2 v9
  let c2_i32_5 : BitVec 32 := 2#32
  let v14 : BitVec 32 := Scalar.remsi v13 c2_i32_5
  let v16 : BitVec 32 := Scalar.addi v15 v14
  let v419 : BitVec 32 := Scalar.addi v16 c0_i32_297
  let c4_i32_298 : BitVec 32 := 4#32
  let v420 : BitVec 32 := Scalar.remsi v419 c4_i32_298
  let v421 : BitVec 32 := Scalar.muli c2048_i32_299 v420
  let v422 : BitVec 32 := Scalar.addi v421 c768_i32_300
  let c0_i32_305 : BitVec 32 := 0#32
  ![v422.toNat, 0]
def k0_dev26 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_344 : BitVec 32 := 8#32
  let v465 : BitVec 32 := Scalar.muli v21 c8_i32_344
  let v466 : BitVec 32 := Scalar.addi c0_i32_345 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_346 : BitVec 32 := 4#32
  let v467 : BitVec 32 := Scalar.muli v5 c4_i32_346
  let v468 : BitVec 32 := Scalar.addi v466 v467
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_347 : BitVec 32 := 1#32
  let v469 : BitVec 32 := Scalar.muli v22 c1_i32_347
  let v470 : BitVec 32 := Scalar.addi v468 v469
  v470.toNat
def k0_dev27 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_354 : BitVec 32 := 8#32
  let v477 : BitVec 32 := Scalar.muli v24 c8_i32_354
  let v478 : BitVec 32 := Scalar.addi c0_i32_355 v477
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v479 : BitVec 32 := Scalar.muli v5 c4_i32_356
  let v480 : BitVec 32 := Scalar.addi v478 v479
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_357 : BitVec 32 := 1#32
  let v481 : BitVec 32 := Scalar.muli v25 c1_i32_357
  let v482 : BitVec 32 := Scalar.addi v480 v481
  v482.toNat
def k0_dev28 (d0 : Dev nD) : Nat :=
  let c0_i32_374 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_373 : BitVec 32 := 8#32
  let v499 : BitVec 32 := Scalar.muli v21 c8_i32_373
  let v500 : BitVec 32 := Scalar.addi c0_i32_374 v499
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_375 : BitVec 32 := 4#32
  let v501 : BitVec 32 := Scalar.muli v5 c4_i32_375
  let v502 : BitVec 32 := Scalar.addi v500 v501
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_376 : BitVec 32 := 1#32
  let v503 : BitVec 32 := Scalar.muli v22 c1_i32_376
  let v504 : BitVec 32 := Scalar.addi v502 v503
  v504.toNat
def k0_dev29 (d0 : Dev nD) : Nat :=
  let c0_i32_384 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_383 : BitVec 32 := 8#32
  let v511 : BitVec 32 := Scalar.muli v24 c8_i32_383
  let v512 : BitVec 32 := Scalar.addi c0_i32_384 v511
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_385 : BitVec 32 := 4#32
  let v513 : BitVec 32 := Scalar.muli v5 c4_i32_385
  let v514 : BitVec 32 := Scalar.addi v512 v513
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_386 : BitVec 32 := 1#32
  let v515 : BitVec 32 := Scalar.muli v25 c1_i32_386
  let v516 : BitVec 32 := Scalar.addi v514 v515
  v516.toNat
def k0_dev30 (d0 : Dev nD) : Nat :=
  let c0_i32_403 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_402 : BitVec 32 := 8#32
  let v533 : BitVec 32 := Scalar.muli v21 c8_i32_402
  let v534 : BitVec 32 := Scalar.addi c0_i32_403 v533
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_404 : BitVec 32 := 4#32
  let v535 : BitVec 32 := Scalar.muli v5 c4_i32_404
  let v536 : BitVec 32 := Scalar.addi v534 v535
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_405 : BitVec 32 := 1#32
  let v537 : BitVec 32 := Scalar.muli v22 c1_i32_405
  let v538 : BitVec 32 := Scalar.addi v536 v537
  v538.toNat
def k0_dev31 (d0 : Dev nD) : Nat :=
  let c0_i32_413 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_412 : BitVec 32 := 8#32
  let v545 : BitVec 32 := Scalar.muli v24 c8_i32_412
  let v546 : BitVec 32 := Scalar.addi c0_i32_413 v545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_414 : BitVec 32 := 4#32
  let v547 : BitVec 32 := Scalar.muli v5 c4_i32_414
  let v548 : BitVec 32 := Scalar.addi v546 v547
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_415 : BitVec 32 := 1#32
  let v549 : BitVec 32 := Scalar.muli v25 c1_i32_415
  let v550 : BitVec 32 := Scalar.addi v548 v549
  v550.toNat
def k0_dev32 (d0 : Dev nD) : Nat :=
  let c0_i32_432 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_431 : BitVec 32 := 8#32
  let v567 : BitVec 32 := Scalar.muli v21 c8_i32_431
  let v568 : BitVec 32 := Scalar.addi c0_i32_432 v567
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_433 : BitVec 32 := 4#32
  let v569 : BitVec 32 := Scalar.muli v5 c4_i32_433
  let v570 : BitVec 32 := Scalar.addi v568 v569
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_434 : BitVec 32 := 1#32
  let v571 : BitVec 32 := Scalar.muli v22 c1_i32_434
  let v572 : BitVec 32 := Scalar.addi v570 v571
  v572.toNat
def k0_dev33 (d0 : Dev nD) : Nat :=
  let c0_i32_442 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_441 : BitVec 32 := 8#32
  let v579 : BitVec 32 := Scalar.muli v24 c8_i32_441
  let v580 : BitVec 32 := Scalar.addi c0_i32_442 v579
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_443 : BitVec 32 := 4#32
  let v581 : BitVec 32 := Scalar.muli v5 c4_i32_443
  let v582 : BitVec 32 := Scalar.addi v580 v581
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_444 : BitVec 32 := 1#32
  let v583 : BitVec 32 := Scalar.muli v25 c1_i32_444
  let v584 : BitVec 32 := Scalar.addi v582 v583
  v584.toNat
def k0_dev34 (d0 : Dev nD) : Nat :=
  let c0_i32_461 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_460 : BitVec 32 := 8#32
  let v601 : BitVec 32 := Scalar.muli v21 c8_i32_460
  let v602 : BitVec 32 := Scalar.addi c0_i32_461 v601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_462 : BitVec 32 := 4#32
  let v603 : BitVec 32 := Scalar.muli v5 c4_i32_462
  let v604 : BitVec 32 := Scalar.addi v602 v603
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_463 : BitVec 32 := 1#32
  let v605 : BitVec 32 := Scalar.muli v22 c1_i32_463
  let v606 : BitVec 32 := Scalar.addi v604 v605
  v606.toNat
def k0_dev35 (d0 : Dev nD) : Nat :=
  let c0_i32_471 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_470 : BitVec 32 := 8#32
  let v613 : BitVec 32 := Scalar.muli v24 c8_i32_470
  let v614 : BitVec 32 := Scalar.addi c0_i32_471 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_472 : BitVec 32 := 4#32
  let v615 : BitVec 32 := Scalar.muli v5 c4_i32_472
  let v616 : BitVec 32 := Scalar.addi v614 v615
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_473 : BitVec 32 := 1#32
  let v617 : BitVec 32 := Scalar.muli v25 c1_i32_473
  let v618 : BitVec 32 := Scalar.addi v616 v617
  v618.toNat
def k0_dev36 (d0 : Dev nD) : Nat :=
  let c0_i32_491 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_490 : BitVec 32 := 8#32
  let v635 : BitVec 32 := Scalar.muli v21 c8_i32_490
  let v636 : BitVec 32 := Scalar.addi c0_i32_491 v635
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_492 : BitVec 32 := 4#32
  let v637 : BitVec 32 := Scalar.muli v5 c4_i32_492
  let v638 : BitVec 32 := Scalar.addi v636 v637
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_493 : BitVec 32 := 1#32
  let v639 : BitVec 32 := Scalar.muli v22 c1_i32_493
  let v640 : BitVec 32 := Scalar.addi v638 v639
  v640.toNat
def k0_dev37 (d0 : Dev nD) : Nat :=
  let c0_i32_511 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_510 : BitVec 32 := 8#32
  let v657 : BitVec 32 := Scalar.muli v21 c8_i32_510
  let v658 : BitVec 32 := Scalar.addi c0_i32_511 v657
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_512 : BitVec 32 := 4#32
  let v659 : BitVec 32 := Scalar.muli v5 c4_i32_512
  let v660 : BitVec 32 := Scalar.addi v658 v659
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_513 : BitVec 32 := 1#32
  let v661 : BitVec 32 := Scalar.muli v22 c1_i32_513
  let v662 : BitVec 32 := Scalar.addi v660 v661
  v662.toNat
def k0_dev38 (d0 : Dev nD) : Nat :=
  let c0_i32_531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_530 : BitVec 32 := 8#32
  let v679 : BitVec 32 := Scalar.muli v21 c8_i32_530
  let v680 : BitVec 32 := Scalar.addi c0_i32_531 v679
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_532 : BitVec 32 := 4#32
  let v681 : BitVec 32 := Scalar.muli v5 c4_i32_532
  let v682 : BitVec 32 := Scalar.addi v680 v681
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_533 : BitVec 32 := 1#32
  let v683 : BitVec 32 := Scalar.muli v22 c1_i32_533
  let v684 : BitVec 32 := Scalar.addi v682 v683
  v684.toNat
def k0_dev39 (d0 : Dev nD) : Nat :=
  let c0_i32_551 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_550 : BitVec 32 := 8#32
  let v701 : BitVec 32 := Scalar.muli v21 c8_i32_550
  let v702 : BitVec 32 := Scalar.addi c0_i32_551 v701
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_552 : BitVec 32 := 4#32
  let v703 : BitVec 32 := Scalar.muli v5 c4_i32_552
  let v704 : BitVec 32 := Scalar.addi v702 v703
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_553 : BitVec 32 := 1#32
  let v705 : BitVec 32 := Scalar.muli v22 c1_i32_553
  let v706 : BitVec 32 := Scalar.addi v704 v705
  v706.toNat
def k0_dev40 (d0 : Dev nD) : Nat :=
  let c0_i32_571 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_570 : BitVec 32 := 8#32
  let v723 : BitVec 32 := Scalar.muli v21 c8_i32_570
  let v724 : BitVec 32 := Scalar.addi c0_i32_571 v723
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_572 : BitVec 32 := 4#32
  let v725 : BitVec 32 := Scalar.muli v5 c4_i32_572
  let v726 : BitVec 32 := Scalar.addi v724 v725
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_573 : BitVec 32 := 1#32
  let v727 : BitVec 32 := Scalar.muli v22 c1_i32_573
  let v728 : BitVec 32 := Scalar.addi v726 v727
  v728.toNat
def k0_off3 (d0 : Dev nD) (c0_i32_639 : BitVec 32) : Fin 2 → Nat :=
  let c2048_i32_641 : BitVec 32 := 2048#32
  let c2_i32_6 : BitVec 32 := 2#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v15 : BitVec 32 := Scalar.muli c2_i32_6 v9
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v13 : BitVec 32 := Scalar.addi v2 v9
  let c2_i32_5 : BitVec 32 := 2#32
  let v14 : BitVec 32 := Scalar.remsi v13 c2_i32_5
  let v16 : BitVec 32 := Scalar.addi v15 v14
  let v796 : BitVec 32 := Scalar.addi v16 c0_i32_639
  let c4_i32_640 : BitVec 32 := 4#32
  let v797 : BitVec 32 := Scalar.remsi v796 c4_i32_640
  let v798 : BitVec 32 := Scalar.muli c2048_i32_641 v797
  let c0_i32_642 : BitVec 32 := 0#32
  let v799 : BitVec 32 := Scalar.addi v798 c0_i32_642
  let c0_i32_647 : BitVec 32 := 0#32
  ![v799.toNat, 0]
def k0_dev41 (d0 : Dev nD) : Nat :=
  let c0_i32_745 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_744 : BitVec 32 := 8#32
  let v900 : BitVec 32 := Scalar.muli v21 c8_i32_744
  let v901 : BitVec 32 := Scalar.addi c0_i32_745 v900
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_746 : BitVec 32 := 4#32
  let v902 : BitVec 32 := Scalar.muli v5 c4_i32_746
  let v903 : BitVec 32 := Scalar.addi v901 v902
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_747 : BitVec 32 := 1#32
  let v904 : BitVec 32 := Scalar.muli v22 c1_i32_747
  let v905 : BitVec 32 := Scalar.addi v903 v904
  v905.toNat
def k0_dev42 (d0 : Dev nD) : Nat :=
  let c0_i32_755 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_754 : BitVec 32 := 8#32
  let v912 : BitVec 32 := Scalar.muli v24 c8_i32_754
  let v913 : BitVec 32 := Scalar.addi c0_i32_755 v912
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_756 : BitVec 32 := 4#32
  let v914 : BitVec 32 := Scalar.muli v5 c4_i32_756
  let v915 : BitVec 32 := Scalar.addi v913 v914
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_757 : BitVec 32 := 1#32
  let v916 : BitVec 32 := Scalar.muli v25 c1_i32_757
  let v917 : BitVec 32 := Scalar.addi v915 v916
  v917.toNat
def k0_dev43 (d0 : Dev nD) : Nat :=
  let c0_i32_774 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_773 : BitVec 32 := 8#32
  let v934 : BitVec 32 := Scalar.muli v21 c8_i32_773
  let v935 : BitVec 32 := Scalar.addi c0_i32_774 v934
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_775 : BitVec 32 := 4#32
  let v936 : BitVec 32 := Scalar.muli v5 c4_i32_775
  let v937 : BitVec 32 := Scalar.addi v935 v936
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_776 : BitVec 32 := 1#32
  let v938 : BitVec 32 := Scalar.muli v22 c1_i32_776
  let v939 : BitVec 32 := Scalar.addi v937 v938
  v939.toNat
def k0_dev44 (d0 : Dev nD) : Nat :=
  let c0_i32_784 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_783 : BitVec 32 := 8#32
  let v946 : BitVec 32 := Scalar.muli v24 c8_i32_783
  let v947 : BitVec 32 := Scalar.addi c0_i32_784 v946
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_785 : BitVec 32 := 4#32
  let v948 : BitVec 32 := Scalar.muli v5 c4_i32_785
  let v949 : BitVec 32 := Scalar.addi v947 v948
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_786 : BitVec 32 := 1#32
  let v950 : BitVec 32 := Scalar.muli v25 c1_i32_786
  let v951 : BitVec 32 := Scalar.addi v949 v950
  v951.toNat
def k0_dev45 (d0 : Dev nD) : Nat :=
  let c0_i32_803 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_802 : BitVec 32 := 8#32
  let v968 : BitVec 32 := Scalar.muli v21 c8_i32_802
  let v969 : BitVec 32 := Scalar.addi c0_i32_803 v968
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_804 : BitVec 32 := 4#32
  let v970 : BitVec 32 := Scalar.muli v5 c4_i32_804
  let v971 : BitVec 32 := Scalar.addi v969 v970
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_805 : BitVec 32 := 1#32
  let v972 : BitVec 32 := Scalar.muli v22 c1_i32_805
  let v973 : BitVec 32 := Scalar.addi v971 v972
  v973.toNat
def k0_dev46 (d0 : Dev nD) : Nat :=
  let c0_i32_813 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_812 : BitVec 32 := 8#32
  let v980 : BitVec 32 := Scalar.muli v24 c8_i32_812
  let v981 : BitVec 32 := Scalar.addi c0_i32_813 v980
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_814 : BitVec 32 := 4#32
  let v982 : BitVec 32 := Scalar.muli v5 c4_i32_814
  let v983 : BitVec 32 := Scalar.addi v981 v982
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_815 : BitVec 32 := 1#32
  let v984 : BitVec 32 := Scalar.muli v25 c1_i32_815
  let v985 : BitVec 32 := Scalar.addi v983 v984
  v985.toNat
def k0_dev47 (d0 : Dev nD) : Nat :=
  let c0_i32_832 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_831 : BitVec 32 := 8#32
  let v1002 : BitVec 32 := Scalar.muli v21 c8_i32_831
  let v1003 : BitVec 32 := Scalar.addi c0_i32_832 v1002
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_833 : BitVec 32 := 4#32
  let v1004 : BitVec 32 := Scalar.muli v5 c4_i32_833
  let v1005 : BitVec 32 := Scalar.addi v1003 v1004
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_834 : BitVec 32 := 1#32
  let v1006 : BitVec 32 := Scalar.muli v22 c1_i32_834
  let v1007 : BitVec 32 := Scalar.addi v1005 v1006
  v1007.toNat
def k0_dev48 (d0 : Dev nD) : Nat :=
  let c0_i32_842 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_841 : BitVec 32 := 8#32
  let v1014 : BitVec 32 := Scalar.muli v24 c8_i32_841
  let v1015 : BitVec 32 := Scalar.addi c0_i32_842 v1014
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_843 : BitVec 32 := 4#32
  let v1016 : BitVec 32 := Scalar.muli v5 c4_i32_843
  let v1017 : BitVec 32 := Scalar.addi v1015 v1016
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_844 : BitVec 32 := 1#32
  let v1018 : BitVec 32 := Scalar.muli v25 c1_i32_844
  let v1019 : BitVec 32 := Scalar.addi v1017 v1018
  v1019.toNat
def k0_dev49 (d0 : Dev nD) : Nat :=
  let c0_i32_861 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_860 : BitVec 32 := 8#32
  let v1036 : BitVec 32 := Scalar.muli v21 c8_i32_860
  let v1037 : BitVec 32 := Scalar.addi c0_i32_861 v1036
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_862 : BitVec 32 := 4#32
  let v1038 : BitVec 32 := Scalar.muli v5 c4_i32_862
  let v1039 : BitVec 32 := Scalar.addi v1037 v1038
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_863 : BitVec 32 := 1#32
  let v1040 : BitVec 32 := Scalar.muli v22 c1_i32_863
  let v1041 : BitVec 32 := Scalar.addi v1039 v1040
  v1041.toNat
def k0_dev50 (d0 : Dev nD) : Nat :=
  let c0_i32_871 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_870 : BitVec 32 := 8#32
  let v1048 : BitVec 32 := Scalar.muli v24 c8_i32_870
  let v1049 : BitVec 32 := Scalar.addi c0_i32_871 v1048
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_872 : BitVec 32 := 4#32
  let v1050 : BitVec 32 := Scalar.muli v5 c4_i32_872
  let v1051 : BitVec 32 := Scalar.addi v1049 v1050
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_873 : BitVec 32 := 1#32
  let v1052 : BitVec 32 := Scalar.muli v25 c1_i32_873
  let v1053 : BitVec 32 := Scalar.addi v1051 v1052
  v1053.toNat
def k0_dev51 (d0 : Dev nD) : Nat :=
  let c0_i32_891 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_890 : BitVec 32 := 8#32
  let v1070 : BitVec 32 := Scalar.muli v24 c8_i32_890
  let v1071 : BitVec 32 := Scalar.addi c0_i32_891 v1070
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_892 : BitVec 32 := 4#32
  let v1072 : BitVec 32 := Scalar.muli v5 c4_i32_892
  let v1073 : BitVec 32 := Scalar.addi v1071 v1072
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_893 : BitVec 32 := 1#32
  let v1074 : BitVec 32 := Scalar.muli v25 c1_i32_893
  let v1075 : BitVec 32 := Scalar.addi v1073 v1074
  v1075.toNat
def k0_dev52 (d0 : Dev nD) : Nat :=
  let c0_i32_911 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_910 : BitVec 32 := 8#32
  let v1092 : BitVec 32 := Scalar.muli v24 c8_i32_910
  let v1093 : BitVec 32 := Scalar.addi c0_i32_911 v1092
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v1094 : BitVec 32 := Scalar.muli v5 c4_i32_912
  let v1095 : BitVec 32 := Scalar.addi v1093 v1094
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_913 : BitVec 32 := 1#32
  let v1096 : BitVec 32 := Scalar.muli v25 c1_i32_913
  let v1097 : BitVec 32 := Scalar.addi v1095 v1096
  v1097.toNat
def k0_dev53 (d0 : Dev nD) : Nat :=
  let c0_i32_931 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_930 : BitVec 32 := 8#32
  let v1114 : BitVec 32 := Scalar.muli v24 c8_i32_930
  let v1115 : BitVec 32 := Scalar.addi c0_i32_931 v1114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_932 : BitVec 32 := 4#32
  let v1116 : BitVec 32 := Scalar.muli v5 c4_i32_932
  let v1117 : BitVec 32 := Scalar.addi v1115 v1116
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_933 : BitVec 32 := 1#32
  let v1118 : BitVec 32 := Scalar.muli v25 c1_i32_933
  let v1119 : BitVec 32 := Scalar.addi v1117 v1118
  v1119.toNat
def k0_dev54 (d0 : Dev nD) : Nat :=
  let c0_i32_951 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_950 : BitVec 32 := 8#32
  let v1136 : BitVec 32 := Scalar.muli v24 c8_i32_950
  let v1137 : BitVec 32 := Scalar.addi c0_i32_951 v1136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_952 : BitVec 32 := 4#32
  let v1138 : BitVec 32 := Scalar.muli v5 c4_i32_952
  let v1139 : BitVec 32 := Scalar.addi v1137 v1138
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_953 : BitVec 32 := 1#32
  let v1140 : BitVec 32 := Scalar.muli v25 c1_i32_953
  let v1141 : BitVec 32 := Scalar.addi v1139 v1140
  v1141.toNat
def k0_dev55 (d0 : Dev nD) : Nat :=
  let c0_i32_971 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_970 : BitVec 32 := 8#32
  let v1158 : BitVec 32 := Scalar.muli v24 c8_i32_970
  let v1159 : BitVec 32 := Scalar.addi c0_i32_971 v1158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_972 : BitVec 32 := 4#32
  let v1160 : BitVec 32 := Scalar.muli v5 c4_i32_972
  let v1161 : BitVec 32 := Scalar.addi v1159 v1160
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_973 : BitVec 32 := 1#32
  let v1162 : BitVec 32 := Scalar.muli v25 c1_i32_973
  let v1163 : BitVec 32 := Scalar.addi v1161 v1162
  v1163.toNat
def k0_dev56 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_1059 : BitVec 32 := 8#32
  let v1250 : BitVec 32 := Scalar.muli v21 c8_i32_1059
  let v1251 : BitVec 32 := Scalar.addi c0_i32_1060 v1250
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1061 : BitVec 32 := 4#32
  let v1252 : BitVec 32 := Scalar.muli v5 c4_i32_1061
  let v1253 : BitVec 32 := Scalar.addi v1251 v1252
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_1062 : BitVec 32 := 1#32
  let v1254 : BitVec 32 := Scalar.muli v22 c1_i32_1062
  let v1255 : BitVec 32 := Scalar.addi v1253 v1254
  v1255.toNat
def k0_dev57 (d0 : Dev nD) : Nat :=
  let c0_i32_1079 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_1078 : BitVec 32 := 8#32
  let v1272 : BitVec 32 := Scalar.muli v21 c8_i32_1078
  let v1273 : BitVec 32 := Scalar.addi c0_i32_1079 v1272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1080 : BitVec 32 := 4#32
  let v1274 : BitVec 32 := Scalar.muli v5 c4_i32_1080
  let v1275 : BitVec 32 := Scalar.addi v1273 v1274
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_1081 : BitVec 32 := 1#32
  let v1276 : BitVec 32 := Scalar.muli v22 c1_i32_1081
  let v1277 : BitVec 32 := Scalar.addi v1275 v1276
  v1277.toNat
def k0_dev58 (d0 : Dev nD) : Nat :=
  let c0_i32_1098 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_1097 : BitVec 32 := 8#32
  let v1294 : BitVec 32 := Scalar.muli v21 c8_i32_1097
  let v1295 : BitVec 32 := Scalar.addi c0_i32_1098 v1294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1099 : BitVec 32 := 4#32
  let v1296 : BitVec 32 := Scalar.muli v5 c4_i32_1099
  let v1297 : BitVec 32 := Scalar.addi v1295 v1296
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_1100 : BitVec 32 := 1#32
  let v1298 : BitVec 32 := Scalar.muli v22 c1_i32_1100
  let v1299 : BitVec 32 := Scalar.addi v1297 v1298
  v1299.toNat
def k0_dev59 (d0 : Dev nD) : Nat :=
  let c0_i32_1117 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_1116 : BitVec 32 := 8#32
  let v1316 : BitVec 32 := Scalar.muli v21 c8_i32_1116
  let v1317 : BitVec 32 := Scalar.addi c0_i32_1117 v1316
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1118 : BitVec 32 := 4#32
  let v1318 : BitVec 32 := Scalar.muli v5 c4_i32_1118
  let v1319 : BitVec 32 := Scalar.addi v1317 v1318
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_1119 : BitVec 32 := 1#32
  let v1320 : BitVec 32 := Scalar.muli v22 c1_i32_1119
  let v1321 : BitVec 32 := Scalar.addi v1319 v1320
  v1321.toNat
def k0_dev60 (d0 : Dev nD) : Nat :=
  let c0_i32_1136 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_1135 : BitVec 32 := 8#32
  let v1338 : BitVec 32 := Scalar.muli v21 c8_i32_1135
  let v1339 : BitVec 32 := Scalar.addi c0_i32_1136 v1338
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1137 : BitVec 32 := 4#32
  let v1340 : BitVec 32 := Scalar.muli v5 c4_i32_1137
  let v1341 : BitVec 32 := Scalar.addi v1339 v1340
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_1138 : BitVec 32 := 1#32
  let v1342 : BitVec 32 := Scalar.muli v22 c1_i32_1138
  let v1343 : BitVec 32 := Scalar.addi v1341 v1342
  v1343.toNat
def k0_dev61 (d0 : Dev nD) : Nat :=
  let c0_i32_1155 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_9 : BitVec 32 := 1#32
  let v20 : BitVec 32 := Scalar.subi c1_i32_9 v2
  let v21 : BitVec 32 := Scalar.select v17 v20 v2
  let c8_i32_1154 : BitVec 32 := 8#32
  let v1360 : BitVec 32 := Scalar.muli v21 c8_i32_1154
  let v1361 : BitVec 32 := Scalar.addi c0_i32_1155 v1360
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1156 : BitVec 32 := 4#32
  let v1362 : BitVec 32 := Scalar.muli v5 c4_i32_1156
  let v1363 : BitVec 32 := Scalar.addi v1361 v1362
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v22 : BitVec 32 := Scalar.select v17 v8 v12
  let c1_i32_1157 : BitVec 32 := 1#32
  let v1364 : BitVec 32 := Scalar.muli v22 c1_i32_1157
  let v1365 : BitVec 32 := Scalar.addi v1363 v1364
  v1365.toNat
def k0_dev62 (d0 : Dev nD) : Nat :=
  let c0_i32_1295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_1294 : BitVec 32 := 8#32
  let v1502 : BitVec 32 := Scalar.muli v24 c8_i32_1294
  let v1503 : BitVec 32 := Scalar.addi c0_i32_1295 v1502
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1296 : BitVec 32 := 4#32
  let v1504 : BitVec 32 := Scalar.muli v5 c4_i32_1296
  let v1505 : BitVec 32 := Scalar.addi v1503 v1504
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_1297 : BitVec 32 := 1#32
  let v1506 : BitVec 32 := Scalar.muli v25 c1_i32_1297
  let v1507 : BitVec 32 := Scalar.addi v1505 v1506
  v1507.toNat
def k0_dev63 (d0 : Dev nD) : Nat :=
  let c0_i32_1314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_1313 : BitVec 32 := 8#32
  let v1524 : BitVec 32 := Scalar.muli v24 c8_i32_1313
  let v1525 : BitVec 32 := Scalar.addi c0_i32_1314 v1524
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1315 : BitVec 32 := 4#32
  let v1526 : BitVec 32 := Scalar.muli v5 c4_i32_1315
  let v1527 : BitVec 32 := Scalar.addi v1525 v1526
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_1316 : BitVec 32 := 1#32
  let v1528 : BitVec 32 := Scalar.muli v25 c1_i32_1316
  let v1529 : BitVec 32 := Scalar.addi v1527 v1528
  v1529.toNat
def k0_dev64 (d0 : Dev nD) : Nat :=
  let c0_i32_1333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_1332 : BitVec 32 := 8#32
  let v1546 : BitVec 32 := Scalar.muli v24 c8_i32_1332
  let v1547 : BitVec 32 := Scalar.addi c0_i32_1333 v1546
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1334 : BitVec 32 := 4#32
  let v1548 : BitVec 32 := Scalar.muli v5 c4_i32_1334
  let v1549 : BitVec 32 := Scalar.addi v1547 v1548
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_1335 : BitVec 32 := 1#32
  let v1550 : BitVec 32 := Scalar.muli v25 c1_i32_1335
  let v1551 : BitVec 32 := Scalar.addi v1549 v1550
  v1551.toNat
def k0_dev65 (d0 : Dev nD) : Nat :=
  let c0_i32_1510 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_1509 : BitVec 32 := 8#32
  let v1724 : BitVec 32 := Scalar.muli v24 c8_i32_1509
  let v1725 : BitVec 32 := Scalar.addi c0_i32_1510 v1724
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1511 : BitVec 32 := 4#32
  let v1726 : BitVec 32 := Scalar.muli v5 c4_i32_1511
  let v1727 : BitVec 32 := Scalar.addi v1725 v1726
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_1512 : BitVec 32 := 1#32
  let v1728 : BitVec 32 := Scalar.muli v25 c1_i32_1512
  let v1729 : BitVec 32 := Scalar.addi v1727 v1728
  v1729.toNat
def k0_dev66 (d0 : Dev nD) : Nat :=
  let c0_i32_1529 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_1528 : BitVec 32 := 8#32
  let v1746 : BitVec 32 := Scalar.muli v24 c8_i32_1528
  let v1747 : BitVec 32 := Scalar.addi c0_i32_1529 v1746
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1530 : BitVec 32 := 4#32
  let v1748 : BitVec 32 := Scalar.muli v5 c4_i32_1530
  let v1749 : BitVec 32 := Scalar.addi v1747 v1748
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_1531 : BitVec 32 := 1#32
  let v1750 : BitVec 32 := Scalar.muli v25 c1_i32_1531
  let v1751 : BitVec 32 := Scalar.addi v1749 v1750
  v1751.toNat
def k0_dev67 (d0 : Dev nD) : Nat :=
  let c0_i32_1548 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v13 : BitVec 32 := Scalar.addi v2 v9
  let c2_i32_5 : BitVec 32 := 2#32
  let v14 : BitVec 32 := Scalar.remsi v13 c2_i32_5
  let c0_i32 : BitVec 32 := 0#32
  let v17 : BitVec 1 := Scalar.cmpi .eq v14 c0_i32
  let c1_i32_10 : BitVec 32 := 1#32
  let v23 : BitVec 32 := Scalar.subi c1_i32_10 v2
  let v24 : BitVec 32 := Scalar.select v17 v2 v23
  let c8_i32_1547 : BitVec 32 := 8#32
  let v1768 : BitVec 32 := Scalar.muli v24 c8_i32_1547
  let v1769 : BitVec 32 := Scalar.addi c0_i32_1548 v1768
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1549 : BitVec 32 := 4#32
  let v1770 : BitVec 32 := Scalar.muli v5 c4_i32_1549
  let v1771 : BitVec 32 := Scalar.addi v1769 v1770
  let c1_i32_3 : BitVec 32 := 1#32
  let v10 : BitVec 32 := Scalar.addi v8 c1_i32_3
  let c2_i32_4 : BitVec 32 := 2#32
  let v11 : BitVec 32 := Scalar.muli c2_i32_4 v9
  let v12 : BitVec 32 := Scalar.subi v10 v11
  let v25 : BitVec 32 := Scalar.select v17 v12 v8
  let c1_i32_1550 : BitVec 32 := 1#32
  let v1772 : BitVec 32 := Scalar.muli v25 c1_i32_1550
  let v1773 : BitVec 32 := Scalar.addi v1771 v1772
  v1773.toNat
-- ==== ReferenceIdeal.lean ====
abbrev S16384x1024 : Shape := ⟨2, ![16384, 1024]⟩
abbrev S2x8192x1024 : Shape := ⟨3, ![2, 8192, 1024]⟩
abbrev S_ : Shape := ⟨0, ![]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .f32⟩
  | .hbm, ⟨2, _⟩ => ⟨S_, .f32⟩
  | .hbm, ⟨3, _⟩ => ⟨S8192x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Ops.lean ====
/-
# The kernel's body as a list of steps

The body is one straight line of 293 effects. This module names the kinds of step that occur in it, lists them in
program order, and states that the printed body is exactly that list run in order.
-/
module

public import proofs.«01_k».proof.Proof.Gen.KernelIdeal
public import proofs.«01_k».proof.Proof.Gen.KernelIdeal.Skeleton
public import Idealize.ShloMosaic.Lib.Tactic

@[expose] public section

noncomputable section

namespace Cert.KernelIdeal.K5

open Cert.KernelIdeal Cert.KernelIdeal.Gen
open Idealize.ShloMosaic Idealize.ShloMosaic.TcCoe Idealize.SL Idealize.SL.Sem

variable {F : FTy → Type} [FloatOps F]

/-! ## Names of what is moved -/

/-- A remote copy: `y p` is the `p`-th chunk exchanged with the device holding the other half, `r q` the `q`-th chunk
passed on to the right along the ring, `l q` the `q`-th passed on to the left. -/
inductive Tr
  | y (p : Fin 22)
  | r (q : Fin 21)
  | l (q : Fin 21)
deriving DecidableEq

/-- A piece of the result: `s i j` is the `j`-th piece of 640 rows of the `i`-th quarter counted from the device's own
ring position, `b i` its piece of 768 rows. -/
inductive Pc
  | s (i : Fin 4) (j : Fin 2)
  | b (i : Fin 4)
deriving DecidableEq

/-- How many rows a piece has. -/
def Pc.h : Pc → ℕ
  | .s _ _ => 640
  | .b _ => 768

/-- The slot of the four-slot buffer in which a piece is summed. -/
def Pc.slot : Pc → Fin 4
  | .s 0 0 => 0 | .s 3 0 => 1 | .s 1 0 => 2 | .s 0 1 => 3
  | .s 1 1 => 0 | .b 0 => 1 | .s 2 0 => 2 | .s 3 1 => 3
  | .s 2 1 => 0 | .b 3 => 1 | .b 2 => 2 | .b 1 => 3

/-- The three landing buffers. -/
inductive Bf | y | l | r
deriving DecidableEq

/-- The landing buffer in which the other half's rows of a piece arrive. -/
def Pc.buf : Pc → Bf
  | .s 0 _ => .y | .s 1 _ => .r | .s 2 0 => .l | .s 2 1 => .r | .s 3 _ => .l
  | .b 0 => .y | .b 1 => .y | .b 2 => .r | .b 3 => .l

/-- The first chunk of 128 rows of that buffer which belongs to the piece. -/
def Pc.at : Pc → ℕ
  | .s 0 0 => 0 | .s 0 1 => 5 | .b 0 => 10 | .b 1 => 16
  | .s 1 0 => 0 | .s 1 1 => 5 | .s 2 1 => 10 | .b 2 => 15
  | .s 3 0 => 0 | .s 2 0 => 5 | .s 3 1 => 10 | .b 3 => 15

/-- How many chunks of 128 rows a landing buffer has. -/
def Bf.n : Bf → ℕ
  | .y => 22 | .l => 21 | .r => 21

/-- The step kinds of the body. -/
inductive Op
  | signal (i : Fin 3)
  | waitBar
  | send (t : Tr)
  | waitRecv (t : Tr)
  | waitSend (t : Tr)
  | load (p : Pc)
  | waitIn (p : Pc)
  | add (p : Pc)
  | out (p : Pc)
  | waitOut (p : Pc)

/-! ## The buffers and their chunks -/

abbrev xM : Memref sig .tc .hbm S8192x1024 .f32 := Memref.whole main_arg0
abbrev oM : Memref sig .tc .hbm S8192x1024 .f32 := Memref.whole main_v1
abbrev yM : Memref sig .tc .vmem S2816x1024 .f32 := Memref.whole cc0_scratch0
abbrev lM : Memref sig .tc .vmem S2688x1024 .f32 := Memref.whole cc0_scratch1
abbrev rM : Memref sig .tc .vmem S2688x1024 .f32 := Memref.whole cc0_scratch2
abbrev bM : Memref sig .tc .vmem S4x768x1024 .f32 := Memref.whole cc0_scratch3

/-- The shape of a piece, of `h` rows. -/
abbrev Sh (h : ℕ) : Shape := ⟨2, ![h, 1024]⟩
/-- The same behind a leading dimension 1. -/
abbrev S1h (h : ℕ) : Shape := ⟨3, ![1, h, 1024]⟩

theorem inb2 {n k h : ℕ} (hk : k + h ≤ n) : ∀ a, (![k, 0] : Fin 2 → ℕ) a + (Sh h).size a ≤ (Sh n).size a := by
  intro a; fin_cases a
  · exact hk
  · exact le_refl 1024

theorem inb3 {k h : ℕ} (hk : k < 4) (hh : h ≤ 768) :
    ∀ a, (![k, 0, 0] : Fin 3 → ℕ) a + (S1h h).size a ≤ S4x768x1024.size a := by
  intro a; fin_cases a
  · exact hk
  · show 0 + h ≤ 768; omega
  · exact le_refl 1024

theorem inbS {n k : ℕ} (hk : k < n) : ∀ a, (![k] : Fin 1 → ℕ) a + S1.size a ≤ (⟨1, ![n]⟩ : Shape).size a := by
  intro a; fin_cases a; exact hk

theorem Pc.h_le (p : Pc) : p.h ≤ 768 := by cases p <;> simp [Pc.h]
theorem Pc.h_pos (p : Pc) : 0 < p.h := by cases p <;> simp [Pc.h]

/-- The rows of the argument that the `p`-th exchange copy sends. -/
def xChunk (c : Dev nD) (p : Fin 22) : Memref sig .tc .hbm S128x1024 .f32 :=
  xM.slice (Rect.unit (s := S8192x1024) (k0_off1 c (k0_off1_at p).1 (k0_off1_at p).2.1 (k0_off1_at p).2.2) S128x1024.size
    (k0_off1_inb c p)) (fun _ => rfl)

/-- The `k`-th chunk of 128 rows of each landing buffer. -/
def yChunk (k : Fin 22) : Memref sig .tc .vmem S128x1024 .f32 :=
  yM.slice (Rect.unit (s := S2816x1024) ![128 * k.val, 0] S128x1024.size (inb2 (by omega))) (fun _ => rfl)
def lChunk (k : Fin 21) : Memref sig .tc .vmem S128x1024 .f32 :=
  lM.slice (Rect.unit (s := S2688x1024) ![128 * k.val, 0] S128x1024.size (inb2 (by omega))) (fun _ => rfl)
def rChunk (k : Fin 21) : Memref sig .tc .vmem S128x1024 .f32 :=
  rM.slice (Rect.unit (s := S2688x1024) ![128 * k.val, 0] S128x1024.size (inb2 (by omega))) (fun _ => rfl)

/-- What the `q`-th copy to the right sends. -/
def rSrc (q : Fin 21) : Memref sig .tc .vmem S128x1024 .f32 :=
  if h : q.val < 5 then yChunk ⟨q.val, by omega⟩
  else if h : q.val < 10 then lChunk ⟨q.val - 5, by omega⟩
  else yChunk ⟨q.val - 5, by omega⟩

/-- What the `q`-th copy to the left sends. -/
def lSrc (q : Fin 21) : Memref sig .tc .vmem S128x1024 .f32 :=
  if h : q.val < 10 then yChunk ⟨q.val, by omega⟩
  else if h : q.val < 15 then rChunk ⟨q.val - 5, by omega⟩
  else yChunk ⟨q.val + 1, by omega⟩

/-- The offset of a piece in the argument and in the result. -/
def Pc.off (c : Dev nD) : Pc → Fin 2 → ℕ
  | .s i j => k0_off2 c (BitVec.ofNat 32 i.val) (BitVec.ofNat 32 (768 + 640 * j.val))
  | .b i => k0_off3 c (BitVec.ofNat 32 i.val)

theorem Pc.off_inb (c : Dev nD) : (p : Pc) → ∀ a, p.off c a + (Sh p.h).size a ≤ S8192x1024.size a
  | .s i j => k0_off2_inb c i j
  | .b i => k0_off3_inb c i

/-- The rows of a piece in the argument and in the result. -/
def xPc (c : Dev nD) (p : Pc) : Memref sig .tc .hbm (Sh p.h) .f32 :=
  xM.slice (Rect.unit (s := S8192x1024) (p.off c) (Sh p.h).size (p.off_inb c)) (fun _ => rfl)
def oPc (c : Dev nD) (p : Pc) : Memref sig .tc .hbm (Sh p.h) .f32 :=
  oM.slice (Rect.unit (s := S8192x1024) (p.off c) (Sh p.h).size (p.off_inb c)) (fun _ => rfl)

/-- The rectangle of the four-slot buffer in which a piece is summed. -/
def slotRect (p : Pc) : Rect S4x768x1024 :=
  Rect.unit (s := S4x768x1024) ![p.slot.val, 0, 0] (S1h p.h).size (inb3 p.slot.isLt p.h_le)

theorem sq1h (p : Pc) : (S1h p.h).Squeezes (Sh p.h) := by
  cases p
  · exact squeezes_S1x640x1024_S640x1024
  · exact squeezes_S1x768x1024_S768x1024

def slotPc3 (p : Pc) : Memref sig .tc .vmem (S1h p.h) .f32 := bM.slice (slotRect p) (fun _ => rfl)
def slotPc (p : Pc) : Memref sig .tc .vmem (Sh p.h) .f32 := (slotPc3 p).squeeze (Sh p.h) (sq1h p)

/-! ## The semaphores -/

abbrev barS : Sems sig S_ := SemArray.scalar (sig.barrier 0 rfl)

def inS (k : Fin 4) : DmaSems sig S_ := (cc0_scratch4.slice (Rect.unit (s := S4) ![k.val] S1.size (inbS k.isLt))).squeeze S_ squeezes_S1_S_
def outS (k : Fin 4) : DmaSems sig S_ := (cc0_scratch5.slice (Rect.unit (s := S4) ![k.val] S1.size (inbS k.isLt))).squeeze S_ squeezes_S1_S_
def ysS (k : Fin 22) : DmaSems sig S_ := (cc0_scratch6.slice (Rect.unit (s := S22) ![k.val] S1.size (inbS k.isLt))).squeeze S_ squeezes_S1_S_
def yrS (k : Fin 22) : DmaSems sig S_ := (cc0_scratch7.slice (Rect.unit (s := S22) ![k.val] S1.size (inbS k.isLt))).squeeze S_ squeezes_S1_S_
def rsS (k : Fin 21) : DmaSems sig S_ := (cc0_scratch8.slice (Rect.unit (s := S21) ![k.val] S1.size (inbS k.isLt))).squeeze S_ squeezes_S1_S_
def rrS (k : Fin 21) : DmaSems sig S_ := (cc0_scratch9.slice (Rect.unit (s := S21) ![k.val] S1.size (inbS k.isLt))).squeeze S_ squeezes_S1_S_
def lsS (k : Fin 21) : DmaSems sig S_ := (cc0_scratch10.slice (Rect.unit (s := S21) ![k.val] S1.size (inbS k.isLt))).squeeze S_ squeezes_S1_S_
def lrS (k : Fin 21) : DmaSems sig S_ := (cc0_scratch11.slice (Rect.unit (s := S21) ![k.val] S1.size (inbS k.isLt))).squeeze S_ squeezes_S1_S_

/-! ## The devices the body names -/

/-- The device the body's `i`-th signal goes to. -/
def sigDev (i : Fin 3) (c : Dev nD) : Dev nD :=
  match i with
  | 0 => ⟨k0_dev1 c, k0_dev1_lt c⟩
  | 1 => ⟨k0_dev2 c, k0_dev2_lt c⟩
  | 2 => ⟨k0_dev3 c, k0_dev3_lt c⟩

/-- The device the body names for the `q`-th exchange copy. -/
def yDev (q : Fin 22) (c : Dev nD) : Dev nD :=
  match q.val with
  | 0 => ⟨k0_dev4 c, k0_dev4_lt c⟩
  | 1 => ⟨k0_dev5 c, k0_dev5_lt c⟩
  | 2 => ⟨k0_dev6 c, k0_dev6_lt c⟩
  | 3 => ⟨k0_dev7 c, k0_dev7_lt c⟩
  | 4 => ⟨k0_dev8 c, k0_dev8_lt c⟩
  | 5 => ⟨k0_dev9 c, k0_dev9_lt c⟩
  | 6 => ⟨k0_dev10 c, k0_dev10_lt c⟩
  | 7 => ⟨k0_dev11 c, k0_dev11_lt c⟩
  | 8 => ⟨k0_dev12 c, k0_dev12_lt c⟩
  | 9 => ⟨k0_dev13 c, k0_dev13_lt c⟩
  | 10 => ⟨k0_dev14 c, k0_dev14_lt c⟩
  | 11 => ⟨k0_dev15 c, k0_dev15_lt c⟩
  | 12 => ⟨k0_dev16 c, k0_dev16_lt c⟩
  | 13 => ⟨k0_dev17 c, k0_dev17_lt c⟩
  | 14 => ⟨k0_dev18 c, k0_dev18_lt c⟩
  | 15 => ⟨k0_dev19 c, k0_dev19_lt c⟩
  | 16 => ⟨k0_dev20 c, k0_dev20_lt c⟩
  | 17 => ⟨k0_dev21 c, k0_dev21_lt c⟩
  | 18 => ⟨k0_dev22 c, k0_dev22_lt c⟩
  | 19 => ⟨k0_dev23 c, k0_dev23_lt c⟩
  | 20 => ⟨k0_dev24 c, k0_dev24_lt c⟩
  | _ => ⟨k0_dev25 c, k0_dev25_lt c⟩

/-- The device the body names for the `q`-th copy to the right. -/
def rDev (q : Fin 21) (c : Dev nD) : Dev nD :=
  match q.val with
  | 0 => ⟨k0_dev26 c, k0_dev26_lt c⟩
  | 1 => ⟨k0_dev28 c, k0_dev28_lt c⟩
  | 2 => ⟨k0_dev30 c, k0_dev30_lt c⟩
  | 3 => ⟨k0_dev32 c, k0_dev32_lt c⟩
  | 4 => ⟨k0_dev34 c, k0_dev34_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev43 c, k0_dev43_lt c⟩
  | 12 => ⟨k0_dev45 c, k0_dev45_lt c⟩
  | 13 => ⟨k0_dev47 c, k0_dev47_lt c⟩
  | 14 => ⟨k0_dev49 c, k0_dev49_lt c⟩
  | 15 => ⟨k0_dev56 c, k0_dev56_lt c⟩
  | 16 => ⟨k0_dev57 c, k0_dev57_lt c⟩
  | 17 => ⟨k0_dev58 c, k0_dev58_lt c⟩
  | 18 => ⟨k0_dev59 c, k0_dev59_lt c⟩
  | 19 => ⟨k0_dev60 c, k0_dev60_lt c⟩
  | _ => ⟨k0_dev61 c, k0_dev61_lt c⟩

/-- The device the body names for the `q`-th copy to the left. -/
def lDev (q : Fin 21) (c : Dev nD) : Dev nD :=
  match q.val with
  | 0 => ⟨k0_dev27 c, k0_dev27_lt c⟩
  | 1 => ⟨k0_dev29 c, k0_dev29_lt c⟩
  | 2 => ⟨k0_dev31 c, k0_dev31_lt c⟩
  | 3 => ⟨k0_dev33 c, k0_dev33_lt c⟩
  | 4 => ⟨k0_dev35 c, k0_dev35_lt c⟩
  | 5 => ⟨k0_dev42 c, k0_dev42_lt c⟩
  | 6 => ⟨k0_dev44 c, k0_dev44_lt c⟩
  | 7 => ⟨k0_dev46 c, k0_dev46_lt c⟩
  | 8 => ⟨k0_dev48 c, k0_dev48_lt c⟩
  | 9 => ⟨k0_dev50 c, k0_dev50_lt c⟩
  | 10 => ⟨k0_dev51 c, k0_dev51_lt c⟩
  | 11 => ⟨k0_dev52 c, k0_dev52_lt c⟩
  | 12 => ⟨k0_dev53 c, k0_dev53_lt c⟩
  | 13 => ⟨k0_dev54 c, k0_dev54_lt c⟩
  | 14 => ⟨k0_dev55 c, k0_dev55_lt c⟩
  | 15 => ⟨k0_dev62 c, k0_dev62_lt c⟩
  | 16 => ⟨k0_dev63 c, k0_dev63_lt c⟩
  | 17 => ⟨k0_dev64 c, k0_dev64_lt c⟩
  | 18 => ⟨k0_dev65 c, k0_dev65_lt c⟩
  | 19 => ⟨k0_dev66 c, k0_dev66_lt c⟩
  | _ => ⟨k0_dev67 c, k0_dev67_lt c⟩

/-! ## The steps -/

theorem sc1 (p : Pc) : (S1h p.h).ShapeCasts (Sh p.h) := by
  cases p
  · exact shapeCasts_S1x640x1024_S640x1024
  · exact shapeCasts_S1x768x1024_S768x1024
theorem sc2 (p : Pc) : (Sh p.h).ShapeCasts (S1h p.h) := by
  cases p
  · exact shapeCasts_S640x1024_S1x640x1024
  · exact shapeCasts_S768x1024_S1x768x1024

/-- What the step `add p` stores: the slot's rows plus the landed rows. -/
def pay (p : Pc) (a : Vec F (S1h p.h) .f32) (b : Vec F (Sh p.h) .f32) : FVec F (S1h p.h) .f32 :=
  shapeCast (S1h p.h) (addf (shapeCast (Sh p.h) a (sc1 p)) b : FVec F (Sh p.h) .f32) (sc2 p)

theorem pos_S1h (p : Pc) : 0 < (S1h p.h).numel := by
  cases p
  · exact h_S1x640x1024
  · exact h_S1x768x1024
theorem pos_Sh (p : Pc) : 0 < (Sh p.h).numel := by
  cases p
  · exact h_S640x1024
  · exact h_S768x1024

theorem Pc.at_le (p : Pc) : 128 * p.at + p.h ≤ 128 * p.buf.n := by
  rcases p with ⟨i, j⟩ | i
  · fin_cases i <;> fin_cases j <;> decide
  · fin_cases i <;> decide

/-- The read of the landed rows of a piece. -/
def ldBuf (p : Pc) : Prog (TpuEff nD τ sig (Elt F) Λ₀ .tc) (Vec F (Sh p.h) .f32) :=
  match hb : p.buf with
  | .y => Prog.lift (.load yM (Rect.unit (s := S2816x1024) ![128 * p.at, 0] (Sh p.h).size
      (inb2 (by have := p.at_le; rw [hb] at this; exact this))).toLoadRect (View.loadsAt_vmem (pos_Sh p)))
  | .l => Prog.lift (.load lM (Rect.unit (s := S2688x1024) ![128 * p.at, 0] (Sh p.h).size
      (inb2 (by have := p.at_le; rw [hb] at this; exact this))).toLoadRect (View.loadsAt_vmem (pos_Sh p)))
  | .r => Prog.lift (.load rM (Rect.unit (s := S2688x1024) ![128 * p.at, 0] (Sh p.h).size
      (inb2 (by have := p.at_le; rw [hb] at this; exact this))).toLoadRect (View.loadsAt_vmem (pos_Sh p)))

/-- One step, as the printed effects. -/
def Op.run (c : Dev nD) : Op → Prog (TpuEff nD τ sig (Elt F) Λ₀ .tc) PUnit
  | .signal i => semSignalWord (sigDev i c) barS.sem 1#32
  | .waitBar => semWaitWord barS.sem 3#32
  | .send (.y p) => Prog.lift (.enqueueDma (xChunk c p) (.remote (Dev.tc (yDev p c)) (yChunk p) (.dma (ysS p).sem)) (.dma (yrS p).sem)
      (View.wordExact_bits rfl) (View.wordExact_bits rfl) ⟨⟨rfl, Or.inl rfl⟩, trivial⟩)
  | .send (.r q) => Prog.lift (.enqueueDma (rSrc q) (.remote (Dev.tc (rDev q c)) (lChunk q) (.dma (rsS q).sem)) (.dma (rrS q).sem)
      (View.wordExact_bits rfl) (View.wordExact_bits rfl) ⟨⟨rfl, Or.inl rfl⟩, trivial⟩)
  | .send (.l q) => Prog.lift (.enqueueDma (lSrc q) (.remote (Dev.tc (lDev q c)) (rChunk q) (.dma (lsS q).sem)) (.dma (lrS q).sem)
      (View.wordExact_bits rfl) (View.wordExact_bits rfl) ⟨⟨rfl, Or.inl rfl⟩, trivial⟩)
  | .waitRecv (.y p) => Prog.lift (.waitDma2 (yrS p).sem (xChunk c p) (yChunk p) (View.wordExact_bits rfl) (View.wordExact_bits rfl))
  | .waitRecv (.r q) => Prog.lift (.waitDma2 (rrS q).sem (lChunk q) (lChunk q) (View.wordExact_bits rfl) (View.wordExact_bits rfl))
  | .waitRecv (.l q) => Prog.lift (.waitDma2 (lrS q).sem (rChunk q) (rChunk q) (View.wordExact_bits rfl) (View.wordExact_bits rfl))
  | .waitSend (.y p) => Prog.lift (.waitDma2 (ysS p).sem (yChunk p) (xChunk c p) (View.wordExact_bits rfl) (View.wordExact_bits rfl))
  | .waitSend (.r q) => Prog.lift (.waitDma2 (rsS q).sem (lChunk q) (rSrc q) (View.wordExact_bits rfl) (View.wordExact_bits rfl))
  | .waitSend (.l q) => Prog.lift (.waitDma2 (lsS q).sem (rChunk q) (lSrc q) (View.wordExact_bits rfl) (View.wordExact_bits rfl))
  | .load p => Prog.lift (.enqueueDma (xPc c p) (.here (slotPc p)) (.dma (inS p.slot).sem) (View.wordExact_bits rfl) (View.wordExact_bits rfl) ⟨Or.inl rfl, trivial⟩)
  | .waitIn p => Prog.lift (.waitDma2 (inS p.slot).sem (xPc c p) (slotPc p) (View.wordExact_bits rfl) (View.wordExact_bits rfl))
  | .add p =>
    Prog.lift (.load bM (slotRect p).toLoadRect (View.loadsAt_vmem (pos_S1h p))) >>= fun a =>
    ldBuf p >>= fun b =>
    Prog.lift (.load bM (slotRect p).toLoadRect (View.loadsAt_vmem (pos_S1h p))) >>= fun _ =>
    Prog.lift (.store bM (slotRect p) (pay p a b) Finset.univ (View.stores_vmem_bits_univ (pos_S1h p) rfl) (.inl rfl))
  | .out p => Prog.lift (.enqueueDma (slotPc p) (.here (oPc c p)) (.dma (outS p.slot).sem) (View.wordExact_bits rfl) (View.wordExact_bits rfl) ⟨Or.inl rfl, trivial⟩)
  | .waitOut p => Prog.lift (.waitDma2 (outS p.slot).sem (slotPc p) (oPc c p) (View.wordExact_bits rfl) (View.wordExact_bits rfl))

/-- A list of steps run in order. -/
def runOps (c : Dev nD) : List Op → Prog (TpuEff nD τ sig (Elt F) Λ₀ .tc) PUnit
  | [] => pure ⟨⟩
  | o :: os => o.run c >>= fun _ => runOps c os

/-- The steps of the body, in program order. -/
def script : List Op :=
  [ .signal 0, .signal 1, .signal 2, .waitBar, .send (.y 0), .send (.y 1), .send (.y 2), .send (.y 3),
    .send (.y 4), .send (.y 5), .send (.y 6), .send (.y 7), .send (.y 8), .send (.y 9), .send (.y 10),
    .send (.y 11), .send (.y 12), .send (.y 13), .send (.y 14), .send (.y 15), .send (.y 16), .send (.y 17),
    .send (.y 18), .send (.y 19), .send (.y 20), .send (.y 21), .load (.s 0 0), .load (.s 3 0),
    .load (.s 1 0), .load (.s 0 1), .waitRecv (.y 0), .send (.r 0), .send (.l 0), .waitRecv (.y 1),
    .send (.r 1), .send (.l 1), .waitRecv (.y 2), .send (.r 2), .send (.l 2), .waitRecv (.y 3), .send (.r 3),
    .send (.l 3), .waitRecv (.y 4), .send (.r 4), .send (.l 4), .waitRecv (.r 0), .send (.r 5),
    .waitRecv (.r 1), .send (.r 6), .waitRecv (.r 2), .send (.r 7), .waitRecv (.r 3), .send (.r 8),
    .waitRecv (.r 4), .send (.r 9), .waitIn (.s 0 0), .add (.s 0 0), .out (.s 0 0), .waitOut (.s 0 0),
    .load (.s 1 1), .waitIn (.s 3 0), .add (.s 3 0), .out (.s 3 0), .waitOut (.s 3 0), .load (.b 0),
    .waitRecv (.l 0), .waitRecv (.l 1), .waitRecv (.l 2), .waitRecv (.l 3), .waitRecv (.l 4),
    .waitIn (.s 1 0), .add (.s 1 0), .out (.s 1 0), .waitOut (.s 1 0), .load (.s 2 0), .waitRecv (.y 5),
    .send (.r 10), .send (.l 5), .waitRecv (.y 6), .send (.r 11), .send (.l 6), .waitRecv (.y 7),
    .send (.r 12), .send (.l 7), .waitRecv (.y 8), .send (.r 13), .send (.l 8), .waitRecv (.y 9),
    .send (.r 14), .send (.l 9), .waitRecv (.l 5), .send (.l 10), .waitRecv (.l 6), .send (.l 11),
    .waitRecv (.l 7), .send (.l 12), .waitRecv (.l 8), .send (.l 13), .waitRecv (.l 9), .send (.l 14),
    .waitIn (.s 0 1), .add (.s 0 1), .out (.s 0 1), .waitOut (.s 0 1), .load (.s 3 1), .waitIn (.s 1 1),
    .add (.s 1 1), .out (.s 1 1), .waitOut (.s 1 1), .load (.s 2 1), .waitRecv (.y 10), .send (.r 15),
    .waitRecv (.y 11), .send (.r 16), .waitRecv (.y 12), .send (.r 17), .waitRecv (.y 13), .send (.r 18),
    .waitRecv (.y 14), .send (.r 19), .waitRecv (.y 15), .send (.r 20), .waitIn (.b 0), .add (.b 0),
    .out (.b 0), .waitOut (.b 0), .load (.b 3), .waitRecv (.r 5), .waitRecv (.r 6), .waitRecv (.r 7),
    .waitRecv (.r 8), .waitRecv (.r 9), .waitIn (.s 2 0), .add (.s 2 0), .out (.s 2 0), .waitOut (.s 2 0),
    .load (.b 2), .waitRecv (.y 16), .send (.l 15), .waitRecv (.y 17), .send (.l 16), .waitRecv (.y 18),
    .send (.l 17), .waitRecv (.r 10), .waitRecv (.r 11), .waitRecv (.r 12), .waitRecv (.r 13),
    .waitRecv (.r 14), .waitIn (.s 3 1), .add (.s 3 1), .out (.s 3 1), .waitOut (.s 3 1), .load (.b 1),
    .waitRecv (.l 10), .waitRecv (.l 11), .waitRecv (.l 12), .waitRecv (.l 13), .waitRecv (.l 14),
    .waitIn (.s 2 1), .add (.s 2 1), .out (.s 2 1), .waitRecv (.y 19), .send (.l 18), .waitRecv (.y 20),
    .send (.l 19), .waitRecv (.y 21), .send (.l 20), .waitRecv (.r 15), .waitRecv (.r 16), .waitRecv (.r 17),
    .waitRecv (.r 18), .waitRecv (.r 19), .waitRecv (.r 20), .waitIn (.b 3), .add (.b 3), .out (.b 3),
    .waitRecv (.l 15), .waitRecv (.l 16), .waitRecv (.l 17), .waitRecv (.l 18), .waitRecv (.l 19),
    .waitRecv (.l 20), .waitIn (.b 2), .add (.b 2), .out (.b 2), .waitIn (.b 1), .add (.b 1), .out (.b 1),
    .waitOut (.s 2 1), .waitOut (.b 3), .waitOut (.b 2), .waitOut (.b 1), .waitSend (.y 0), .waitSend (.y 1),
    .waitSend (.y 2), .waitSend (.y 3), .waitSend (.y 4), .waitSend (.y 5), .waitSend (.y 6),
    .waitSend (.y 7), .waitSend (.y 8), .waitSend (.y 9), .waitSend (.y 10), .waitSend (.y 11),
    .waitSend (.y 12), .waitSend (.y 13), .waitSend (.y 14), .waitSend (.y 15), .waitSend (.y 16),
    .waitSend (.y 17), .waitSend (.y 18), .waitSend (.y 19), .waitSend (.y 20), .waitSend (.y 21),
    .waitSend (.r 0), .waitSend (.l 0), .waitSend (.r 1), .waitSend (.l 1), .waitSend (.r 2),
    .waitSend (.l 2), .waitSend (.r 3), .waitSend (.l 3), .waitSend (.r 4), .waitSend (.l 4),
    .waitSend (.r 5), .waitSend (.r 6), .waitSend (.r 7), .waitSend (.r 8), .waitSend (.r 9),
    .waitSend (.r 10), .waitSend (.l 5), .waitSend (.r 11), .waitSend (.l 6), .waitSend (.r 12),
    .waitSend (.l 7), .waitSend (.r 13), .waitSend (.l 8), .waitSend (.r 14), .waitSend (.l 9),
    .waitSend (.l 10), .waitSend (.l 11), .waitSend (.l 12), .waitSend (.l 13), .waitSend (.l 14),
    .waitSend (.r 15), .waitSend (.r 16), .waitSend (.r 17), .waitSend (.r 18), .waitSend (.r 19),
    .waitSend (.r 20), .waitSend (.l 15), .waitSend (.l 16), .waitSend (.l 17), .waitSend (.l 18),
    .waitSend (.l 19), .waitSend (.l 20) ]

/-- The body run on the call's own buffers. -/
def bodyK : Prog (TpuEff nD τ sig (Elt F) Λ₀ .tc) PUnit :=
  cc0_body (Memref.whole main_arg0) (Memref.isWhole_whole _) (Memref.whole main_v1) (Memref.isWhole_whole _) (Memref.whole cc0_scratch0) (Memref.isWhole_whole _) (Memref.whole cc0_scratch1) (Memref.isWhole_whole _)
    (Memref.whole cc0_scratch2) (Memref.isWhole_whole _) (Memref.whole cc0_scratch3) (Memref.isWhole_whole _) cc0_scratch4 cc0_scratch5 cc0_scratch6 cc0_scratch7 cc0_scratch8
    cc0_scratch9 cc0_scratch10 cc0_scratch11

set_option maxRecDepth 65536 in
set_option maxHeartbeats 0 in
/-- The printed body asks for its device and then runs the steps of the list. -/
theorem bodyK_eq : bodyK (F := F) = (Prog.lift .deviceId >>= fun c => runOps (F := F) c script) := rfl

end Cert.KernelIdeal.K5

end
-- ==== Proof.KernelIdeal.Topo.lean ====
/-
# Who sends to whom

The 16 devices form a mesh (x, y, z) of 2 × 2 × 4, numbered 8x + 4y + z. The two devices that differ only in y hold the
two halves of the argument: they are each other's partner. Within one value of y, every four devices (two values of x,
two neighbouring values of z) form a ring. This module names the neighbours and shows that the devices the body
computes, and the rows it computes, are the expected ones.
-/
module

public import proofs.«01_k».proof.Proof.KernelIdeal.Ops

@[expose] public section

noncomputable section

namespace Cert.KernelIdeal.K5

open Cert.KernelIdeal Cert.KernelIdeal.Gen
open Idealize.ShloMosaic Idealize.ShloMosaic.TcCoe Idealize.SL Idealize.SL.Sem

/-- The device that differs in y only. -/
def partner (c : Dev nD) : Dev nD := ⟨if c.val / 4 % 2 = 0 then c.val + 4 else c.val - 4, by
  have := c.isLt; simp only [nD] at *; split <;> omega⟩
/-- The device that differs in x only. -/
def xn (c : Dev nD) : Dev nD := ⟨(c.val + 8) % 16, Nat.mod_lt _ (by decide)⟩
/-- The neighbour along z in the same pair of values. -/
def zn (c : Dev nD) : Dev nD := ⟨if c.val % 2 = 0 then c.val + 1 else c.val - 1, by
  have := c.isLt; simp only [nD] at *; split <;> omega⟩
/-- Whether the device's next on the ring is its x neighbour. -/
def isE (c : Dev nD) : Bool := (c.val / 8 + c.val % 2) % 2 == 0
/-- The next device on the ring. -/
def right (c : Dev nD) : Dev nD := if isE c then xn c else zn c
/-- The device before on the ring. -/
def left (c : Dev nD) : Dev nD := if isE c then zn c else xn c
/-- The device's place on its ring. -/
def ring (c : Dev nD) : ℕ := 2 * (c.val % 2) + (c.val / 8 + c.val % 2) % 2
/-- Which half of the argument the device holds. -/
def half (c : Dev nD) : ℕ := c.val / 4 % 2

theorem partner_partner : ∀ c, partner (partner c) = c := by decide +kernel
theorem left_right : ∀ c, left (right c) = c := by decide +kernel
theorem right_left : ∀ c, right (left c) = c := by decide +kernel
theorem ring_partner : ∀ c, ring (partner c) = ring c := by decide +kernel
theorem ring_right : ∀ c, ring (right c) = (ring c + 1) % 4 := by decide +kernel
theorem ring_left : ∀ c, ring (left c) = (ring c + 3) % 4 := by decide +kernel
theorem ring_lt : ∀ c, ring c < 4 := by decide +kernel
theorem half_partner : ∀ c, half (partner c) = 1 - half c := by decide +kernel
theorem half_right : ∀ c, half (right c) = half c := by decide +kernel
theorem half_left : ∀ c, half (left c) = half c := by decide +kernel
theorem half_lt : ∀ c, half c < 2 := by decide +kernel

/-- The device a remote copy goes to. -/
def Tr.tgt (c : Dev nD) : Tr → Dev nD
  | .y _ => partner c
  | .r _ => right c
  | .l _ => left c
/-- The device it comes from. -/
def Tr.org (c : Dev nD) : Tr → Dev nD
  | .y _ => partner c
  | .r _ => left c
  | .l _ => right c

theorem Tr.org_tgt (c : Dev nD) (t : Tr) : t.org (t.tgt c) = c := by
  cases t
  · exact partner_partner c
  · exact left_right c
  · exact right_left c
theorem Tr.tgt_org (c : Dev nD) (t : Tr) : t.tgt (t.org c) = c := by
  cases t
  · exact partner_partner c
  · exact right_left c
  · exact left_right c

theorem yDev_eq : ∀ (c : Dev nD) (p : Fin 22), yDev p c = partner c := by decide +kernel
theorem rDev_eq : ∀ (c : Dev nD) (q : Fin 21), rDev q c = right c := by decide +kernel
theorem lDev_eq : ∀ (c : Dev nD) (q : Fin 21), lDev q c = left c := by decide +kernel

/-- What a device's entry signal says to its target, one of: "your partner is ready" (0), "your right neighbour is
ready" (1), "your left neighbour is ready" (2). -/
def role (c : Dev nD) (i : Fin 3) : Fin 3 :=
  if i = 0 then 0 else if (i = 1) = (isE c = true) then 2 else 1
/-- The target of the entry signal of a role. -/
def bTgt (c : Dev nD) (d : Fin 3) : Dev nD :=
  if d = 0 then partner c else if d = 1 then left c else right c

theorem sigDev_eq : ∀ (c : Dev nD) (i : Fin 3), sigDev i c = bTgt c (role c i) := by decide +kernel
theorem role_inj : ∀ (c : Dev nD) (i j : Fin 3), role c i = role c j → i = j := by decide +kernel

/-- The row of the argument at which the `p`-th exchange copy starts, counted in the sender's ring quarters. -/
def yo (p : ℕ) : ℕ := if p < 10 then 768 + 128 * p else if p < 16 then 128 * p - 1280 else 128 * p - 2048

theorem off1_eq : ∀ (c : Dev nD) (p : Fin 22), k0_off1 c (k0_off1_at p).1 (k0_off1_at p).2.1 (k0_off1_at p).2.2
    = ![2048 * ((ring c + if p.val < 16 then 0 else 1) % 4) + yo p.val, 0] := by decide +kernel

/-- The row a piece starts at within its ring quarter. -/
def Pc.o : Pc → ℕ
  | .s _ j => 640 * j.val + 768
  | .b _ => 0
/-- How many quarters after its own the device finds the piece. -/
def Pc.i : Pc → Fin 4
  | .s i _ => i
  | .b i => i

theorem Pc.off_eq (c : Dev nD) (p : Pc) : p.off c = ![2048 * ((ring c + p.i) % 4) + p.o, 0] := by
  have h : ring c = 2 * (c.val % 4 % 2) + (c.val / 8 + c.val % 4 % 2) % 2 := by
    have := c.isLt; simp only [ring]; omega
  cases p with
  | s i j => rw [h]; exact k0_off2_eq c i j
  | b i => rw [h]; exact k0_off3_eq c i

end Cert.KernelIdeal.K5

end
-- ==== Proof.KernelIdeal.Contents.lean ====
/-
# What each landing buffer comes to hold

Every row that lands in a buffer of device `c` is a row of the argument of some device of the other half. This module
names those rows, buffer by buffer, and shows that each remote copy delivers the rows its destination should hold,
provided its source holds the rows it should.
-/
module

public import proofs.«01_k».proof.Proof.KernelIdeal.Topo

@[expose] public section

noncomputable section

namespace Cert.KernelIdeal.K5

open Cert.KernelIdeal Cert.KernelIdeal.Gen
open Idealize.ShloMosaic Idealize.ShloMosaic.TcCoe Idealize.SL Idealize.SL.Sem

variable {F : FTy → Type} [FloatOps F]

/-- The index of row `i`, column `j` in an array of `n` rows and 1024 columns (both taken modulo the extent). -/
def ix (n : ℕ) (hn : 0 < n) (i j : ℕ) : (Sh n).Idx := fun a =>
  match a with
  | 0 => ⟨i % n, Nat.mod_lt _ hn⟩
  | 1 => ⟨j % 1024, Nat.mod_lt _ (by decide)⟩

theorem ix_eq {n : ℕ} (hn : 0 < n) {i j : ℕ} (x : (Sh n).Idx) (h0 : (x 0).val = i) (h1 : (x 1).val = j) : x = ix n hn i j := by
  funext a
  fin_cases a
  · exact Fin.ext (by subst h0; exact (Nat.mod_eq_of_lt (x 0).isLt).symm)
  · exact Fin.ext (by subst h1; exact (Nat.mod_eq_of_lt (x 1).isLt).symm)

/-- The arguments of all devices. -/
abbrev Args (F : FTy → Type) := Dev nD → S8192x1024.Idx → Elt F .f32

variable (X : Args F)

/-- Row `i`, column `j` of a device's argument. -/
def xat (c : Dev nD) (i j : ℕ) : Elt F .f32 := X c (ix 8192 (by decide) i j)

/-- The row of its argument that the partner sends to row `k` of the exchange buffer. -/
def yrow (c : Dev nD) (k : ℕ) : ℕ :=
  2048 * ((ring c + if k < 2048 then 0 else 1) % 4) + if k < 1280 then 768 + k else if k < 2048 then k - 1280 else k - 2048

/-- Row `k`, column `j` of device `c`'s exchange buffer. -/
def yv (c : Dev nD) (k j : ℕ) : Elt F .f32 := xat X (partner c) (yrow c k) j
/-- Row `k`, column `j` of the buffer in which device `c` receives from its left. -/
def lv' (c : Dev nD) (k j : ℕ) : Elt F .f32 :=
  if k < 640 then yv X (left c) k j else if k < 1280 then yv X (left (left c)) (k - 640) j else yv X (left c) (k - 640) j
/-- Row `k`, column `j` of the buffer in which device `c` receives from its right. -/
def rv (c : Dev nD) (k j : ℕ) : Elt F .f32 :=
  if k < 1280 then yv X (right c) k j else if k < 1920 then yv X (right (right c)) (k - 640) j else yv X (right c) (k + 128) j

/-- The three buffers' contents. -/
def YB (c : Dev nD) : S2816x1024.Idx → Elt F .f32 := fun x => yv X c (x 0).val (x 1).val
def LB (c : Dev nD) : S2688x1024.Idx → Elt F .f32 := fun x => lv' X c (x 0).val (x 1).val
def RB (c : Dev nD) : S2688x1024.Idx → Elt F .f32 := fun x => rv X c (x 0).val (x 1).val

theorem read_yChunk (k : Fin 22) (f : ℕ → ℕ → Elt F .f32) :
    (yChunk k).view.read (Elt F) (fun x : S2816x1024.Idx => f (x 0).val (x 1).val)
      = fun x : S128x1024.Idx => f (128 * k.val + (x 0).val) (x 1).val := by
  funext x
  show f (128 * k.val + 1 * (x 0).val) (0 + 1 * (x 1).val) = _
  rw [Nat.one_mul, Nat.one_mul, Nat.zero_add]
theorem read_lChunk (k : Fin 21) (f : ℕ → ℕ → Elt F .f32) :
    (lChunk k).view.read (Elt F) (fun x : S2688x1024.Idx => f (x 0).val (x 1).val)
      = fun x : S128x1024.Idx => f (128 * k.val + (x 0).val) (x 1).val := by
  funext x
  show f (128 * k.val + 1 * (x 0).val) (0 + 1 * (x 1).val) = _
  rw [Nat.one_mul, Nat.one_mul, Nat.zero_add]
theorem read_rChunk (k : Fin 21) (f : ℕ → ℕ → Elt F .f32) :
    (rChunk k).view.read (Elt F) (fun x : S2688x1024.Idx => f (x 0).val (x 1).val)
      = fun x : S128x1024.Idx => f (128 * k.val + (x 0).val) (x 1).val := by
  funext x
  show f (128 * k.val + 1 * (x 0).val) (0 + 1 * (x 1).val) = _
  rw [Nat.one_mul, Nat.one_mul, Nat.zero_add]

theorem read_YB (c : Dev nD) (k : Fin 22) : (yChunk k).view.read (Elt F) (YB X c)
    = fun x : S128x1024.Idx => yv X c (128 * k.val + (x 0).val) (x 1).val := read_yChunk k (yv X c)
theorem read_LB (c : Dev nD) (k : Fin 21) : (lChunk k).view.read (Elt F) (LB X c)
    = fun x : S128x1024.Idx => lv' X c (128 * k.val + (x 0).val) (x 1).val := read_lChunk k (lv' X c)
theorem read_RB (c : Dev nD) (k : Fin 21) : (rChunk k).view.read (Elt F) (RB X c)
    = fun x : S128x1024.Idx => rv X c (128 * k.val + (x 0).val) (x 1).val := read_rChunk k (rv X c)

theorem read_xChunk (c : Dev nD) (p : Fin 22) :
    (xChunk c p).view.read (Elt F) (X c)
      = fun x : S128x1024.Idx => xat X c (yrow (partner c) (128 * p.val + (x 0).val)) (x 1).val := by
  funext x
  have h0 : (x 0).val < 128 := (x 0).isLt
  show X c ((xChunk c p).view.emb x) = X c (ix 8192 (by decide) _ _)
  congr 1
  refine ix_eq _ (n := 8192) _ ?_ ?_
  · show k0_off1 c (k0_off1_at p).1 (k0_off1_at p).2.1 (k0_off1_at p).2.2 0 + 1 * (x 0).val = _
    rw [off1_eq]
    show 2048 * ((ring c + if p.val < 16 then 0 else 1) % 4) + yo p.val + 1 * (x 0).val = _
    rw [yrow, ring_partner]
    have e1 : (128 * p.val + (x 0).val < 2048) = (p.val < 16) := by apply propext; omega
    have e2 : (128 * p.val + (x 0).val < 1280) = (p.val < 10) := by apply propext; omega
    simp only [e1, e2, yo]
    split <;> (try split) <;> omega
  · show k0_off1 c (k0_off1_at p).1 (k0_off1_at p).2.1 (k0_off1_at p).2.2 1 + 1 * (x 1).val = _
    rw [off1_eq]
    show 0 + 1 * (x 1).val = _
    omega

theorem land_y (c : Dev nD) (p : Fin 22) :
    (yChunk p).view.read (Elt F) (YB X (partner c)) = (xChunk c p).view.read (Elt F) (X c) := by
  rw [read_xChunk, read_YB]
  funext x
  rw [yv, partner_partner]

theorem land_r1 (c : Dev nD) (q : Fin 21) (h : q.val < 5) :
    (lChunk q).view.read (Elt F) (LB X (right c)) = (yChunk ⟨q.val, by omega⟩).view.read (Elt F) (YB X c) := by
  rw [read_LB, read_YB]
  funext x
  have h0 : (x 0).val < 128 := (x 0).isLt
  rw [lv', left_right, if_pos (by omega)]
theorem land_r2 (c : Dev nD) (q : Fin 21) (h : ¬ q.val < 5) (h' : q.val < 10) :
    (lChunk q).view.read (Elt F) (LB X (right c)) = (lChunk ⟨q.val - 5, by omega⟩).view.read (Elt F) (LB X c) := by
  rw [read_LB, read_LB]
  funext x
  have h0 : (x 0).val < 128 := (x 0).isLt
  rw [lv', left_right, if_neg (by omega), if_pos (by omega), lv', if_pos (by dsimp only; omega)]
  congr 1; dsimp only; omega
theorem land_r3 (c : Dev nD) (q : Fin 21) (h : ¬ q.val < 5) (h' : ¬ q.val < 10) :
    (lChunk q).view.read (Elt F) (LB X (right c)) = (yChunk ⟨q.val - 5, by omega⟩).view.read (Elt F) (YB X c) := by
  rw [read_LB, read_YB]
  funext x
  have h0 : (x 0).val < 128 := (x 0).isLt
  rw [lv', left_right, if_neg (by omega), if_neg (by omega)]
  congr 1; dsimp only; omega

theorem land_l1 (c : Dev nD) (q : Fin 21) (h : q.val < 10) :
    (rChunk q).view.read (Elt F) (RB X (left c)) = (yChunk ⟨q.val, by omega⟩).view.read (Elt F) (YB X c) := by
  rw [read_RB, read_YB]
  funext x
  have h0 : (x 0).val < 128 := (x 0).isLt
  rw [rv, right_left, if_pos (by omega)]
theorem land_l2 (c : Dev nD) (q : Fin 21) (h : ¬ q.val < 10) (h' : q.val < 15) :
    (rChunk q).view.read (Elt F) (RB X (left c)) = (rChunk ⟨q.val - 5, by omega⟩).view.read (Elt F) (RB X c) := by
  rw [read_RB, read_RB]
  funext x
  have h0 : (x 0).val < 128 := (x 0).isLt
  rw [rv, right_left, if_neg (by omega), if_pos (by omega), rv, if_pos (by dsimp only; omega)]
  congr 1; dsimp only; omega
theorem land_l3 (c : Dev nD) (q : Fin 21) (h : ¬ q.val < 10) (h' : ¬ q.val < 15) :
    (rChunk q).view.read (Elt F) (RB X (left c)) = (yChunk ⟨q.val + 1, by omega⟩).view.read (Elt F) (YB X c) := by
  rw [read_RB, read_YB]
  funext x
  have h0 : (x 0).val < 128 := (x 0).isLt
  rw [rv, right_left, if_neg (by omega), if_neg (by omega)]
  congr 1; dsimp only; omega

/-- Row `k`, column `j` of a landing buffer of device `c`. -/
def bval (c : Dev nD) : Bf → ℕ → ℕ → Elt F .f32
  | .y => yv X c
  | .l => lv' X c
  | .r => rv X c

/-- The landed rows of a piece, and what the piece of the result is: the device's own rows plus the landed ones. -/
def landed (c : Dev nD) (p : Pc) : Vec F (Sh p.h) .f32 :=
  fun x => bval X c p.buf (128 * p.at + (x 0).val) (x 1).val
def sumPc (c : Dev nD) (p : Pc) : FVec F (Sh p.h) .f32 :=
  addf ((xPc c p).view.read (Elt F) (X c) : Vec F (Sh p.h) .f32) (landed X c p)

end Cert.KernelIdeal.K5

end
-- ==== Proof.KernelIdeal.Schedule.lean ====
/-
# The protocol between the devices

For every semaphore that another device raises, or that a remote copy of this device raises: who raises it, by how much,
and what is handed over with it.

- The barrier semaphore of a device is raised once by its partner and once by each of its two ring neighbours. Each
  hands over its own landing buffer into which the device will send.
- The send semaphore of a remote copy is raised when the source has been read; it gives the source back.
- The receive semaphore of a remote copy is raised when the copy has landed; it gives the receiver the landed rows.
-/
module

public import proofs.«01_k».proof.Proof.KernelIdeal.Contents
public import proofs.«01_k».proof.Proof.Gen.KernelIdeal.Launch
public import Idealize.ShloMosaic.Lib.Pipeline.Launch
public import Idealize.ShloMosaic.Lib.Pipeline.Kit
public import Idealize.ShloMosaic.Lib.Ring.Trips

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The protocol's own component. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

abbrev 𝒱₀ : Variants := Variants.none

/-! ## The cells -/

/-- The send and the receive semaphore of a remote copy. -/
def Tr.sS : Tr → DmaSem sig
  | .y p => (ysS p).sem
  | .r q => (rsS q).sem
  | .l q => (lsS q).sem
def Tr.rS : Tr → DmaSem sig
  | .y p => (yrS p).sem
  | .r q => (rrS q).sem
  | .l q => (lrS q).sem

/-- The semaphores of the protocol, by what they are for. -/
inductive Cl
  | bar
  | s (t : Tr)
  | r (t : Tr)

def Cl.sem : Cl → SemLoc sig
  | .bar => .reg barS.sem
  | .s t => .dma t.sS
  | .r t => .dma t.rS

/-- What a DMA semaphore is for, by its number. -/
def decD (i : ℕ) : Option Cl :=
  if h : i < 8 then none
  else if h : i < 30 then some (.s (.y ⟨i - 8, by omega⟩))
  else if h : i < 52 then some (.r (.y ⟨i - 30, by omega⟩))
  else if h : i < 73 then some (.s (.r ⟨i - 52, by omega⟩))
  else if h : i < 94 then some (.r (.r ⟨i - 73, by omega⟩))
  else if h : i < 115 then some (.s (.l ⟨i - 94, by omega⟩))
  else if h : i < 136 then some (.r (.l ⟨i - 115, by omega⟩))
  else none

/-- What a semaphore is for. -/
def dec : SemLoc sig → Option Cl
  | .reg s => if s = barS.sem then some .bar else none
  | .dma i => decD i.val

theorem ysS_val : ∀ k, (ysS k).sem.val = 8 + k.val := by decide
theorem yrS_val : ∀ k, (yrS k).sem.val = 30 + k.val := by decide
theorem rsS_val : ∀ k, (rsS k).sem.val = 52 + k.val := by decide
theorem rrS_val : ∀ k, (rrS k).sem.val = 73 + k.val := by decide
theorem lsS_val : ∀ k, (lsS k).sem.val = 94 + k.val := by decide
theorem lrS_val : ∀ k, (lrS k).sem.val = 115 + k.val := by decide
theorem inS_val : ∀ k, (inS k).sem.val = k.val := by decide
theorem outS_val : ∀ k, (outS k).sem.val = 4 + k.val := by decide

theorem dec_sem (cl : Cl) : dec cl.sem = some cl := by
  rcases cl with _ | (p | q | q) | (p | q | q)
  · show (if barS.sem = barS.sem then some Cl.bar else none) = some Cl.bar; exact if_pos rfl
  · have := p.isLt; show decD (ysS p).sem.val = _; rw [ysS_val, decD, dif_neg (by omega), dif_pos (by omega)]; simp
  · have := q.isLt; show decD (rsS q).sem.val = _
    rw [rsS_val, decD, dif_neg (by omega), dif_neg (by omega), dif_neg (by omega), dif_pos (by omega)]; simp
  · have := q.isLt; show decD (lsS q).sem.val = _
    rw [lsS_val, decD, dif_neg (by omega), dif_neg (by omega), dif_neg (by omega), dif_neg (by omega), dif_neg (by omega), dif_pos (by omega)]; simp
  · have := p.isLt; show decD (yrS p).sem.val = _
    rw [yrS_val, decD, dif_neg (by omega), dif_neg (by omega), dif_pos (by omega)]; simp
  · have := q.isLt; show decD (rrS q).sem.val = _
    rw [rrS_val, decD, dif_neg (by omega), dif_neg (by omega), dif_neg (by omega), dif_neg (by omega), dif_pos (by omega)]; simp
  · have := q.isLt; show decD (lrS q).sem.val = _
    rw [lrS_val, decD, dif_neg (by omega), dif_neg (by omega), dif_neg (by omega), dif_neg (by omega), dif_neg (by omega), dif_neg (by omega),
      dif_pos (by omega)]; simp

theorem Cl.sem_inj {a b : Cl} (h : a.sem = b.sem) : a = b := by
  have h1 := dec_sem a; rw [h, dec_sem b] at h1; exact (Option.some.inj h1).symm

theorem dec_inS (k : Fin 4) : dec (.dma (inS k).sem) = none := by
  have := k.isLt; show decD (inS k).sem.val = _; rw [inS_val, decD, dif_pos (by omega)]
theorem dec_outS (k : Fin 4) : dec (.dma (outS k).sem) = none := by
  have := k.isLt; show decD (outS k).sem.val = _; rw [outS_val, decD, dif_pos (by omega)]

/-- The cell of a device's semaphore. -/
abbrev cell (c : Dev nD) (cl : Cl) : GSem nD τ sig := ((c : Thread nD τ), cl.sem)

/-- The units one chunk's copy raises its semaphores by. -/
def N : ℕ := (lChunk 0).view.dmaCredit
theorem N_pos : 0 < N := View.dmaCredit_pos _ (by decide)

/-! ## What is handed over -/

variable (X : Args F)

/-- The three parts of a landed chunk's ownership: one for the copy to the right, one for the copy to the left, one for
the device's own reads. -/
abbrev sh : Fin 3 → PosShare TreeShare := Ring.shares3 fullShare

/-- The `k`-th chunk of a landing buffer of device `c`, holding what should land there. -/
def chP (c : Dev nD) : (b : Bf) → Fin b.n → PosShare TreeShare → sProp 𝕄
  | .y, k, q => (yChunk k).view.loc (c : Thread nD τ) ↦[(yChunk k).view.set]{q} YB X c
  | .l, k, q => (lChunk k).view.loc (c : Thread nD τ) ↦[(lChunk k).view.set]{q} LB X c
  | .r, k, q => (rChunk k).view.loc (c : Thread nD τ) ↦[(rChunk k).view.set]{q} RB X c

/-- The same chunk, whatever it holds. -/
def rawP (c : Dev nD) : (b : Bf) → Fin b.n → sProp 𝕄
  | .y, k => iprop(∃ f : Buf (Elt F) ((yChunk k).view.loc (c : Thread nD τ)), (yChunk k).view.loc (c : Thread nD τ) ↦[(yChunk k).view.set]{fullShare} f)
  | .l, k => iprop(∃ f : Buf (Elt F) ((lChunk k).view.loc (c : Thread nD τ)), (lChunk k).view.loc (c : Thread nD τ) ↦[(lChunk k).view.set]{fullShare} f)
  | .r, k => iprop(∃ f : Buf (Elt F) ((rChunk k).view.loc (c : Thread nD τ)), (rChunk k).view.loc (c : Thread nD τ) ↦[(rChunk k).view.set]{fullShare} f)

theorem pts_storable {ℓ : Loc nD τ sig} (I : Finset (Idx ℓ)) (q : PosShare TreeShare) (f : Buf (Elt F) ℓ) :
    BI.Storable (upEmb : UEmb _ 𝕄) (ℓ ↦[I]{q} f : sProp 𝕄) := inferInstance

instance chP_storable (c : Dev nD) (b : Bf) (k : Fin b.n) (q : PosShare TreeShare) : BI.Storable (upEmb : UEmb _ 𝕄) (chP X c b k q) := by
  cases b
  · exact pts_storable (ℓ := (yChunk k).view.loc (c : Thread nD τ)) _ _ (YB X c)
  · exact pts_storable (ℓ := (lChunk k).view.loc (c : Thread nD τ)) _ _ (LB X c)
  · exact pts_storable (ℓ := (rChunk k).view.loc (c : Thread nD τ)) _ _ (RB X c)
instance rawP_storable (c : Dev nD) (b : Bf) (k : Fin b.n) : BI.Storable (upEmb : UEmb _ 𝕄) (rawP (F := F) c b k) := by
  cases b <;> (unfold rawP; infer_instance)

/-- The buffer a remote copy lands in, and its chunk. -/
def Tr.bf : Tr → Bf
  | .y _ => .y
  | .r _ => .l
  | .l _ => .r
def Tr.k : (t : Tr) → Fin t.bf.n
  | .y p => p
  | .r q => q
  | .l q => q

/-- The source of a remote copy of device `c`, at the part of the ownership that it is lent. -/
def srcP (c : Dev nD) : Tr → sProp 𝕄
  | .y p => (xChunk c p).view.loc (c : Thread nD τ) ↦[(xChunk c p).view.set]{fullShare.left} X c
  | .r q => if h : q.val < 5 then chP X c .y ⟨q.val, Nat.lt_trans h (by decide)⟩ (sh 0)
      else if h : q.val < 10 then chP X c .l ⟨q.val - 5, Nat.lt_of_le_of_lt (Nat.sub_le _ _) q.isLt⟩ (sh 0)
      else chP X c .y ⟨q.val - 5, Nat.lt_of_le_of_lt (Nat.sub_le _ _) (Nat.lt_succ_of_lt q.isLt)⟩ (sh 0)
  | .l q => if h : q.val < 10 then chP X c .y ⟨q.val, Nat.lt_trans h (by decide)⟩ (sh 1)
      else if h : q.val < 15 then chP X c .r ⟨q.val - 5, Nat.lt_of_le_of_lt (Nat.sub_le _ _) q.isLt⟩ (sh 1)
      else chP X c .y ⟨q.val + 1, Nat.succ_lt_succ q.isLt⟩ (sh 1)

instance srcP_storable (c : Dev nD) (t : Tr) : BI.Storable (upEmb : UEmb _ 𝕄) (srcP X c t) := by
  cases t with
  | y p => exact pts_storable (ℓ := (xChunk c p).view.loc (c : Thread nD τ)) _ _ (X c)
  | r q => simp only [srcP]; (repeat' split) <;> exact chP_storable X c _ _ _
  | l q => simp only [srcP]; (repeat' split) <;> exact chP_storable X c _ _ _

/-- The landing buffer that the entry signal of a role hands over. -/
def bufOf (d : Fin 3) : Bf := if d = 0 then .y else if d = 1 then .l else .r
/-- The device an entry signal of a role comes from. -/
def bOrg (c : Dev nD) (d : Fin 3) : Dev nD :=
  if d = 0 then partner c else if d = 1 then right c else left c

/-- What the entry signal of a role hands device `c`. -/
def barP (c : Dev nD) (d : Fin 3) : sProp 𝕄 := bigSep Finset.univ fun k : Fin (bufOf d).n => rawP (bOrg c d) (bufOf d) k

instance barP_storable (c : Dev nD) (d : Fin 3) : BI.Storable (upEmb : UEmb _ 𝕄) (barP (F := F) c d) := by
  unfold barP; infer_instance

theorem bOrg_bTgt : ∀ (c : Dev nD) (d : Fin 3), bOrg (bTgt c d) d = c := by decide +kernel

/-! ## The schedule -/

def dutiesOf : Option Cl → Finset (Fin 3)
  | some .bar => Finset.univ
  | some _ => {0}
  | none => ∅
def amountOf : Option Cl → ℕ
  | some .bar => 1
  | _ => N
def payOf (c : Dev nD) (d : Fin 3) : Option Cl → sProp 𝕄
  | some .bar => barP c d
  | some (.s t) => srcP X c t
  | some (.r t) => chP X c t.bf t.k fullShare
  | none => iprop(emp)

instance payOf_storable (c : Dev nD) (d : Fin 3) (o : Option Cl) : BI.Storable (upEmb : UEmb _ 𝕄) (payOf X c d o) := by
  rcases o with _ | _ | t | t <;> (unfold payOf; infer_instance)

/-- The protocol: one round, in which each semaphore is raised as described and waited for once. -/
def Rd : Rounds.Schedule (GSem nD τ sig) (Fin 3) 𝕄 where
  duties g r := if r = 0 ∧ g.1.2 = .tc then dutiesOf (dec g.2) else ∅
  amount g _ _ := amountOf (dec g.2)
  payload g _ d := payOf X g.1.1 d (dec g.2)
  amount_pos g _ _ _ := by
    rcases dec g.2 with _ | _ | t | t
    · exact N_pos
    · exact Nat.one_pos
    · exact N_pos
    · exact N_pos

instance Rd_storable (g : GSem nD τ sig) (r : ℕ) (d : Fin 3) : BI.Storable (upEmb : UEmb _ 𝕄) ((Rd X).payload g r d) := by
  show BI.Storable upEmb (payOf X g.1.1 d (dec g.2)); infer_instance

theorem duties_eq (c : Dev nD) (cl : Cl) : (Rd X).duties (cell c cl) 0 = dutiesOf (some cl) := by
  dsimp only [Rd]; rw [dec_sem]; exact if_pos ⟨rfl, rfl⟩
theorem duties_later (g : GSem nD τ sig) : ∀ r, 1 ≤ r → (Rd X).duties g r = ∅ :=
  fun r hr => if_neg fun h => by have := h.1; omega
theorem amount_eq (c : Dev nD) (cl : Cl) (r : ℕ) (d : Fin 3) : (Rd X).amount (cell c cl) r d = amountOf (some cl) := by
  show amountOf (dec cl.sem) = _; rw [dec_sem]
theorem payload_eq (c : Dev nD) (cl : Cl) (r : ℕ) (d : Fin 3) : (Rd X).payload (cell c cl) r d = payOf X c d (some cl) := by
  show payOf X c d (dec cl.sem) = _; rw [dec_sem]

theorem expect_bar (c : Dev nD) : (Rd X).expect (cell c .bar) 0 = 3 := by
  unfold Schedule.expect Schedule.amountOf
  rw [duties_eq, Finset.sum_congr rfl fun d _ => amount_eq X c .bar 0 d]
  rfl
theorem expect_s (c : Dev nD) (t : Tr) : (Rd X).expect (cell c (.s t)) 0 = N := by
  unfold Schedule.expect Schedule.amountOf
  rw [duties_eq, show dutiesOf (some (.s t)) = {0} from rfl, Finset.sum_singleton, amount_eq]; rfl
theorem expect_r (c : Dev nD) (t : Tr) : (Rd X).expect (cell c (.r t)) 0 = N := by
  unfold Schedule.expect Schedule.amountOf
  rw [duties_eq, show dutiesOf (some (.r t)) = {0} from rfl, Finset.sum_singleton, amount_eq]; rfl

/-! ## What a device owes while steps remain -/

/-- What a step pays. -/
def Op.pays (c : Dev nD) : Op → CellTallies nD τ sig Unit
  | .signal i => tallyAt (cell (bTgt c (role c i)) .bar) () 1
  | .send t => tallyAt (cell (t.tgt c) (.r t)) () N
  | _ => 0

/-- What a list of steps pays. -/
def debt (c : Dev nD) : List Op → CellTallies nD τ sig Unit
  | [] => 0
  | o :: os => debt c os + o.pays c

/-- The order in which the remote copies start, as numbers. -/
def Tr.pos : Tr → ℕ
  | .y p => p
  | .r q => if q.val < 5 then 100 + 2 * q.val else if q.val < 10 then 120 + q.val else if q.val < 15 then 120 + 2 * q.val else 200 + q.val
  | .l q => if q.val < 5 then 101 + 2 * q.val else if q.val < 10 then 131 + 2 * q.val else if q.val < 15 then 160 + q.val else 300 + q.val

/-- The level of a semaphore: a device waits only below everything it still owes. -/
def clLv : Option Cl → ℕ
  | some .bar => 1
  | some (.r t) => 2 + t.pos
  | _ => 0

def L (g : GSem nD τ sig) : Finset Unit := if g.1.2 = .tc then {()} else ∅
def lv (g : GSem nD τ sig) (_ : Unit) : ℕ := clLv (dec g.2)
theorem L_of_ne (g : GSem nD τ sig) (h : g.1.2 ≠ .tc) : L g = ∅ := if_neg h
theorem L_tc (c : Dev nD) (sm : SemLoc sig) : L ((c : Thread nD τ), sm) = {()} := if_pos rfl

/-- The level a step pays at, if it pays. -/
def Op.payLv : Op → Option ℕ
  | .signal _ => some 1
  | .send t => some (2 + t.pos)
  | _ => none
/-- The level a step waits at. -/
def Op.waitLv : Op → ℕ
  | .waitBar => 1
  | .waitRecv t => 2 + t.pos
  | _ => 0

/-- Every one of the steps pays above level `n`. -/
def above (n : ℕ) (os : List Op) : Bool :=
  os.all fun o => match o.payLv with
    | some k => Nat.ble (n + 1) k
    | none => true

theorem pays_pos {c : Dev nD} {o : Op} {g : GSem nD τ sig} {u : Unit} (h : 0 < o.pays c g u) :
    ∃ k, o.payLv = some k ∧ lv g u = k ∧ u ∈ L g := by
  cases o with
  | signal i =>
    simp only [Op.pays] at h
    rw [tallyAt_apply] at h
    by_cases e : g = cell (bTgt c (role c i)) .bar ∧ u = ()
    · refine ⟨1, rfl, ?_, ?_⟩
      · rw [e.1]; show clLv (dec (Cl.bar).sem) = 1; rw [dec_sem]; rfl
      · rw [e.1, L_tc]; exact Finset.mem_singleton_self _
    · rw [if_neg e] at h; exact absurd h (Nat.lt_irrefl 0)
  | send t =>
    simp only [Op.pays] at h
    rw [tallyAt_apply] at h
    by_cases e : g = cell (t.tgt c) (.r t) ∧ u = ()
    · refine ⟨2 + t.pos, rfl, ?_, ?_⟩
      · rw [e.1]; show clLv (dec (Cl.r t).sem) = _; rw [dec_sem]; rfl
      · rw [e.1, L_tc]; exact Finset.mem_singleton_self _
    · rw [if_neg e] at h; exact absurd h (Nat.lt_irrefl 0)
  | _ => exact absurd h (Nat.lt_irrefl 0)

theorem debt_pos {c : Dev nD} {os : List Op} {g : GSem nD τ sig} {u : Unit} (h : 0 < debt c os g u) :
    ∃ o ∈ os, 0 < o.pays c g u := by
  induction os with
  | nil => exact absurd h (Nat.lt_irrefl 0)
  | cons o os ih =>
    have h' : 0 < debt c os g u + o.pays c g u := h
    rcases (by omega : 0 < debt c os g u ∨ 0 < o.pays c g u) with h1 | h1
    · obtain ⟨o', ho', hp⟩ := ih h1; exact ⟨o', List.mem_cons_of_mem _ ho', hp⟩
    · exact ⟨o, List.mem_cons_self, h1⟩

/-- A device may wait at a level below what the remaining steps pay. -/
theorem mayWait (c : Dev nD) (sm : SemLoc sig) (os : List Op) (h : above (clLv (dec sm)) os = true) :
    (levAts L lv : sProp 𝕄) ⊢ MayWait (c : Thread nD τ) sm () (debt c os) :=
  MayOwe.of_cut (L := L) (lev := lv) (clLv (dec sm)) (fun p hp => by rw [Finset.mem_singleton.mp hp, L_tc]; exact Finset.mem_singleton_self _)
    (fun g u hg => by
      obtain ⟨o, ho, hp⟩ := debt_pos hg
      obtain ⟨k, _, _, hL⟩ := pays_pos hp
      exact hL)
    (fun p hp => by rw [Finset.mem_singleton.mp hp]; exact le_refl _)
    (fun g u hg => by
      obtain ⟨o, ho, hp⟩ := debt_pos hg
      obtain ⟨k, hk, hl, _⟩ := pays_pos hp
      have := List.all_eq_true.mp h o ho
      simp only [hk] at this
      rw [hl]; exact Nat.le_of_ble_eq_true this)

end Cert.KernelIdeal.K5

end
-- ==== Proof.KernelIdeal.Sets.lean ====
/-
# The elements of the pieces

Which rows a chunk or a piece covers, and what the sum step leaves in its slot.
-/
module

public import proofs.«01_k».proof.Proof.KernelIdeal.Schedule

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A rectangle of whole rows holds exactly the indices whose row it covers. -/
theorem mem_rows {n k h : ℕ} (inb : ∀ a, (![k, 0] : Fin 2 → ℕ) a + (Sh h).size a ≤ (Sh n).size a) (i : (Sh n).Idx) :
    i ∈ (Rect.unit (s := Sh n) ![k, 0] (Sh h).size inb).set ↔ k ≤ (i 0).val ∧ (i 0).val < k + h := by
  rw [← Rect.map_emb_univ, Finset.mem_map]
  constructor
  · rintro ⟨x, -, rfl⟩
    have h0 : (x 0).val < h := (x 0).isLt
    show k ≤ k + 1 * (x 0).val ∧ k + 1 * (x 0).val < k + h
    omega
  · rintro ⟨h0, h1⟩
    have h2 : (i 1).val < 1024 := (i 1).isLt
    refine ⟨fun a => match a with | 0 => ⟨(i 0).val - k, by show _ < h; omega⟩ | 1 => ⟨(i 1).val, h2⟩, Finset.mem_univ _, ?_⟩
    funext a
    fin_cases a
    · refine Fin.ext ?_
      show k + 1 * ((i 0).val - k) = (i 0).val
      omega
    · refine Fin.ext ?_
      show 0 + 1 * (i 1).val = (i 1).val
      omega

theorem mem_yChunk (k : Fin 22) (i : S2816x1024.Idx) :
    i ∈ (yChunk k).view.set ↔ 128 * k.val ≤ (i 0).val ∧ (i 0).val < 128 * k.val + 128 := by
  rw [show (yChunk k).view.set = _ from View.set_slice_whole _ _]
  exact mem_rows (n := 2816) (h := 128) _ i
theorem mem_lChunk (k : Fin 21) (i : S2688x1024.Idx) :
    i ∈ (lChunk k).view.set ↔ 128 * k.val ≤ (i 0).val ∧ (i 0).val < 128 * k.val + 128 := by
  rw [show (lChunk k).view.set = _ from View.set_slice_whole _ _]
  exact mem_rows (n := 2688) (h := 128) _ i
theorem mem_rChunk (k : Fin 21) (i : S2688x1024.Idx) :
    i ∈ (rChunk k).view.set ↔ 128 * k.val ≤ (i 0).val ∧ (i 0).val < 128 * k.val + 128 := by
  rw [show (rChunk k).view.set = _ from View.set_slice_whole _ _]
  exact mem_rows (n := 2688) (h := 128) _ i

/-- A rectangle of rows given by an offset vector. -/
theorem mem_rows' {n h : ℕ} {off : Fin 2 → ℕ} {k : ℕ} (e : off = ![k, 0]) (inb : ∀ a, off a + (Sh h).size a ≤ (Sh n).size a) (i : (Sh n).Idx) :
    i ∈ (Rect.unit (s := Sh n) off (Sh h).size inb).set ↔ k ≤ (i 0).val ∧ (i 0).val < k + h := by
  subst e; exact mem_rows inb i

/-- The first row of a piece, and of an exchange chunk, in the argument. -/
def Pc.row (c : Dev nD) (p : Pc) : ℕ := 2048 * ((ring c + p.i) % 4) + p.o
def xrow (c : Dev nD) (p : Fin 22) : ℕ := 2048 * ((ring c + if p.val < 16 then 0 else 1) % 4) + yo p.val

theorem mem_xPc (c : Dev nD) (p : Pc) (i : S8192x1024.Idx) :
    i ∈ (xPc c p).view.set ↔ p.row c ≤ (i 0).val ∧ (i 0).val < p.row c + p.h := by
  rw [show (xPc c p).view.set = _ from View.set_slice_whole _ _]
  exact mem_rows' (n := 8192) (p.off_eq c) _ i
theorem mem_oPc (c : Dev nD) (p : Pc) (i : S8192x1024.Idx) :
    i ∈ (oPc c p).view.set ↔ p.row c ≤ (i 0).val ∧ (i 0).val < p.row c + p.h := by
  rw [show (oPc c p).view.set = _ from View.set_slice_whole _ _]
  exact mem_rows' (n := 8192) (p.off_eq c) _ i
theorem mem_xChunk (c : Dev nD) (p : Fin 22) (i : S8192x1024.Idx) :
    i ∈ (xChunk c p).view.set ↔ xrow c p ≤ (i 0).val ∧ (i 0).val < xrow c p + 128 := by
  rw [show (xChunk c p).view.set = _ from View.set_slice_whole _ _]
  exact mem_rows' (n := 8192) (h := 128) (off1_eq c p) _ i

/-- One slot of the four-slot buffer. -/
def slotSet (k : Fin 4) : Finset S4x768x1024.Idx := Finset.univ.filter fun i => (i 0).val = k.val

theorem slotPc3_sub (p : Pc) : (slotPc3 p).view.set ⊆ slotSet p.slot := by
  rw [show (slotPc3 p).view.set = _ from View.set_slice_whole _ _, ← Rect.map_emb_univ]
  intro i hi
  obtain ⟨x, -, rfl⟩ := Finset.mem_map.mp hi
  refine Finset.mem_filter.mpr ⟨Finset.mem_univ _, ?_⟩
  have h0 : (x 0).val < 1 := (x 0).isLt
  show p.slot.val + 1 * (x 0).val = p.slot.val
  omega
theorem slotPc_set (p : Pc) : (slotPc p).view.set = (slotPc3 p).view.set := View.set_reshape _ _
theorem slotPc_sub (p : Pc) : (slotPc p).view.set ⊆ slotSet p.slot := by rw [slotPc_set]; exact slotPc3_sub p

/-- The sum step leaves the sum of the two operands in the slot's rows. -/
theorem read_sum (p : Pc) (f : S4x768x1024.Idx → Elt F .f32) (b : Vec F (Sh p.h) .f32) :
    (slotPc p).view.read (Elt F) ((bM.access (slotRect p)).write (Elt F) f
        (pay p (bM.view.readAt (Elt F) (slotRect p).toLoadRect f) b) Finset.univ)
      = (addf ((slotPc p).view.read (Elt F) f : Vec F (Sh p.h) .f32) b : FVec F (Sh p.h) .f32) := by
  funext x
  refine (congrFun (View.read_write_univ (Val := Elt F) (v := bM.access (slotRect p)) f
    (pay p (bM.view.readAt (Elt F) (slotRect p).toLoadRect f) b)) (Shape.reshapeEquiv (sq1h p).numel_eq x)).trans ?_
  show FloatOps.addf (F := F) _ _ = FloatOps.addf (F := F) _ _
  have e2 : ∀ (h1 : (S1h p.h).numel = (Sh p.h).numel) (h2 : (Sh p.h).numel = (S1h p.h).numel),
      Shape.reshapeEquiv h1 (Shape.reshapeEquiv h2 x) = x := fun h1 h2 => by
    rw [Shape.reshapeEquiv_reshapeEquiv, Shape.reshapeEquiv_self]
  rw [e2]
  rfl

/-- The chunks of its landing buffer that a piece reads. -/
def Pc.chunks (p : Pc) : List (Fin p.buf.n) :=
  (List.finRange p.buf.n).filter fun k => Nat.ble p.at k.val && Nat.ble (k.val + 1) (p.at + p.h / 128)

theorem Pc.chunks_nodup (p : Pc) : p.chunks.Nodup := (List.nodup_finRange _).filter _
theorem Pc.mem_chunks (p : Pc) (k : Fin p.buf.n) : k ∈ p.chunks ↔ p.at ≤ k.val ∧ k.val < p.at + p.h / 128 := by
  simp only [Pc.chunks, List.mem_filter, List.mem_finRange, true_and, Bool.and_eq_true, Nat.ble_eq, Nat.succ_le_iff]

theorem Pc.h_div (p : Pc) : 128 * (p.h / 128) = p.h := by cases p <;> simp [Pc.h]

variable (X : Args F)

/-- The elements of a chunk of a landing buffer, and the buffer's contents, uniformly in the buffer. -/
abbrev Bf.ref : Bf → Ref sig .tc
  | .y => cc0_scratch0
  | .l => cc0_scratch1
  | .r => cc0_scratch2
def chSet (c : Dev nD) : (b : Bf) → Fin b.n → Finset (Idx ((c : Thread nD τ).loc b.ref))
  | .y, k => (yChunk k).view.set
  | .l, k => (lChunk k).view.set
  | .r, k => (rChunk k).view.set
def BB (c : Dev nD) : (b : Bf) → Buf (Elt F) ((c : Thread nD τ).loc b.ref)
  | .y => YB X c
  | .l => LB X c
  | .r => RB X c

theorem chP_eq (c : Dev nD) (b : Bf) (k : Fin b.n) (q : PosShare TreeShare) :
    chP X c b k q = ((c : Thread nD τ).loc b.ref ↦[chSet c b k]{q} BB X c b : sProp 𝕄) := by
  cases b <;> rfl
theorem rawP_eq (c : Dev nD) (b : Bf) (k : Fin b.n) :
    rawP (F := F) c b k = iprop(∃ f : Buf (Elt F) ((c : Thread nD τ).loc b.ref), ((c : Thread nD τ).loc b.ref ↦[chSet c b k]{fullShare} f : sProp 𝕄)) := by
  cases b <;> rfl

theorem chSet_disj (c : Dev nD) (b : Bf) (k k' : Fin b.n) (h : k ≠ k') : Disjoint (chSet c b k) (chSet c b k') := by
  have hv : k.val ≠ k'.val := fun e => h (Fin.ext e)
  rw [Finset.disjoint_left]
  cases b
  · intro i h1 h2
    have h1 := (mem_yChunk k i).mp h1; have h2 := (mem_yChunk k' i).mp h2
    omega
  · intro i h1 h2
    have h1 := (mem_lChunk k i).mp h1; have h2 := (mem_lChunk k' i).mp h2
    omega
  · intro i h1 h2
    have h1 := (mem_rChunk k i).mp h1; have h2 := (mem_rChunk k' i).mp h2
    omega

theorem yChunk_cover (i : S2816x1024.Idx) : ∃ k : Fin 22, i ∈ (yChunk k).view.set := by
  have h : (i 0).val < 2816 := (i 0).isLt
  exact ⟨⟨(i 0).val / 128, by omega⟩, (mem_yChunk _ i).mpr (by dsimp only; omega)⟩
theorem lChunk_cover (i : S2688x1024.Idx) : ∃ k : Fin 21, i ∈ (lChunk k).view.set := by
  have h : (i 0).val < 2688 := (i 0).isLt
  exact ⟨⟨(i 0).val / 128, by omega⟩, (mem_lChunk _ i).mpr (by dsimp only; omega)⟩
theorem rChunk_cover (i : S2688x1024.Idx) : ∃ k : Fin 21, i ∈ (rChunk k).view.set := by
  have h : (i 0).val < 2688 := (i 0).isLt
  exact ⟨⟨(i 0).val / 128, by omega⟩, (mem_rChunk _ i).mpr (by dsimp only; omega)⟩

theorem chSet_cover (c : Dev nD) (b : Bf) : (Finset.univ : Finset (Fin b.n)).biUnion (chSet c b) = Finset.univ := by
  refine Finset.eq_univ_iff_forall.mpr fun i => Finset.mem_biUnion.mpr ?_
  cases b
  · obtain ⟨k, hk⟩ := yChunk_cover i; exact ⟨k, Finset.mem_univ _, hk⟩
  · obtain ⟨k, hk⟩ := lChunk_cover i; exact ⟨k, Finset.mem_univ _, hk⟩
  · obtain ⟨k, hk⟩ := rChunk_cover i; exact ⟨k, Finset.mem_univ _, hk⟩

/-- The chunks a piece reads, held together. -/
theorem chunks_join (c : Dev nD) (p : Pc) (q : PosShare TreeShare) :
    bigSepL p.chunks (fun k => chP X c p.buf k q)
      = ((c : Thread nD τ).loc p.buf.ref ↦[p.chunks.toFinset.biUnion (chSet c p.buf)]{q} BB X c p.buf : sProp 𝕄) := by
  rw [pointsTo_biUnion _ _ (fun t _ t' _ h => chSet_disj c p.buf t t' h), bigSep_eq_bigSepL _ p.chunks_nodup]
  simp only [chP_eq]

end Cert.KernelIdeal.K5

end
-- ==== Proof.KernelIdeal.Steps.lean ====
/-
# The steps of the body, one rule each

What a device holds at a moment is a list of items (`At`). Each kind of step takes some items and gives others; this
module states what each item is, and proves for each kind of step that it may be run from the items it takes.
-/
module

public import proofs.«01_k».proof.Proof.KernelIdeal.Sets
public import Idealize.ShloMosaic.Lib.Pipeline.BigSepL

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## All remote copies, all semaphores of the protocol -/

def Tr.all : List Tr := (List.finRange 22).map .y ++ (List.finRange 21).map .r ++ (List.finRange 21).map .l
theorem Tr.mem_all (t : Tr) : t ∈ Tr.all := by
  cases t <;> simp [Tr.all]
theorem Tr.all_nodup : Tr.all.Nodup := by decide +kernel
instance : Fintype Tr := ⟨Tr.all.toFinset, fun t => List.mem_toFinset.mpr t.mem_all⟩
deriving instance DecidableEq for Cl
def Cl.all : List Cl := .bar :: (Tr.all.map .s ++ Tr.all.map .r)
theorem Cl.mem_all (t : Cl) : t ∈ Cl.all := by
  cases t <;> simp [Cl.all, Tr.mem_all]
theorem Cl.all_nodup : Cl.all.Nodup := by decide +kernel
instance : Fintype Cl := ⟨Cl.all.toFinset, fun t => List.mem_toFinset.mpr t.mem_all⟩

variable (X : Args F) (K : Dev nD × Cl → ℕ)

/-- The records everybody shares: each protocol semaphore's invariant, and that its round has begun. -/
def records : sProp 𝕄 :=
  iprop((bigSep Finset.univ fun ck : Dev nD × Cl => cellInv ER (Rd X) (K ck) (cell ck.1 ck.2))
    ∗ bigSep Finset.univ fun ck : Dev nD × Cl => reached ER (cell ck.1 ck.2) 0)
instance records_persistent : BI.Persistent (records X K) := by unfold records; infer_instance

theorem records_inv (c : Dev nD) (cl : Cl) : records X K ⊢ cellInv ER (Rd X) (K (c, cl)) (cell c cl) := by
  unfold records
  exact sep_elim_left.trans (bigSep_elim (Finset.mem_univ (c, cl)))
theorem records_reached (c : Dev nD) (cl : Cl) : records X K ⊢ reached ER (cell c cl) 0 := by
  unfold records
  exact sep_elim_right.trans (bigSep_elim (Finset.mem_univ (c, cl)))

/-- What a device owes, whatever it has waited for. -/
def ow (c : Dev nD) (O : CellTallies nD τ sig Unit) : sProp 𝕄 := iprop(∃ W, owes (c : Thread nD τ) O W)

/-! ## The items -/

/-- An item a device may hold. -/
inductive At
  | btok (i : Fin 3)
  | bpos | bcr | bz
  | tok (t : Tr) | dst (t : Tr)
  | rcr (t : Tr) | rpos (t : Tr) | rz (t : Tr)
  | scr (t : Tr) | spos (t : Tr) | sz (t : Tr)
  | xs (p : Fin 22)
  | ch (b : Bf) (k : Fin b.n) (s : Fin 3)
  | xl (p : Pc)
  | isem (k : Fin 4) | osem (k : Fin 4)
  | free (k : Fin 4)
  | lflt (p : Pc) | lld (p : Pc) | lsum (p : Pc)
  | oreg (p : Pc) | oflt (p : Pc) | odone (p : Pc)

/-- A slot of the four-slot buffer at given contents of the buffer. -/
def slotP (c : Dev nD) (k : Fin 4) (f : S4x768x1024.Idx → Elt F .f32) : sProp 𝕄 :=
  (c : Thread nD τ).loc cc0_scratch3 ↦[slotSet k]{fullShare} f
/-- A piece of the device's argument, at the part of the ownership left for its own loads. -/
def xlP (c : Dev nD) (p : Pc) : sProp 𝕄 := (xPc c p).view.loc (c : Thread nD τ) ↦[(xPc c p).view.set]{fullShare.right} X c
/-- A piece of the device's result at given contents. -/
def oP (c : Dev nD) (p : Pc) (g : S8192x1024.Idx → Elt F .f32) : sProp 𝕄 :=
  (oPc c p).view.loc (c : Thread nD τ) ↦[(oPc c p).view.set]{fullShare} g

/-- What an item is. -/
def atP (c : Dev nD) : At → sProp 𝕄
  | .btok i => iprop(dutyTok ER (cell (bTgt c (role c i)) .bar) 0 (role c i) ∗ barP (bTgt c (role c i)) (role c i))
  | .bpos => atPos ER (cell c .bar) 0 ∅ 0
  | .bcr => cred (tallyAt (cell c .bar) () 3)
  | .bz => semVal (cell c .bar) 0
  | .tok t => iprop(dutyTok ER (cell c (.s t)) 0 0 ∗ dutyTok ER (cell (t.tgt c) (.r t)) 0 0)
  | .dst t => rawP (t.tgt c) t.bf t.k
  | .rcr t => cred (tallyAt (cell c (.r t)) () N)
  | .rpos t => atPos ER (cell c (.r t)) 0 ∅ 0
  | .rz t => semVal (cell c (.r t)) 0
  | .scr t => cred (tallyAt (cell c (.s t)) () N)
  | .spos t => atPos ER (cell c (.s t)) 0 ∅ 0
  | .sz t => semVal (cell c (.s t)) 0
  | .xs p => srcP X c (.y p)
  | .ch b k s => chP X c b k (sh s)
  | .xl p => xlP X c p
  | .isem k => semVal ((c : Thread nD τ), .dma (inS k).sem) 0
  | .osem k => semVal ((c : Thread nD τ), .dma (outS k).sem) 0
  | .free k => iprop(∃ f, slotP c k f)
  | .lflt p => iprop(∃ f : S4x768x1024.Idx → Elt F .f32, Transfers.Flight countersEmb (c : Thread nD τ) (.dma (inS p.slot).sem) () (slotPc p).view.dmaCredit
      iprop(slotP c p.slot ((slotPc p).view.write (Elt F) f ((xPc c p).view.read (Elt F) (X c)) Finset.univ) ∗ xlP X c p))
  | .lld p => iprop(∃ f, ⌜(slotPc p).view.read (Elt F) f = (xPc c p).view.read (Elt F) (X c)⌝ ∗ slotP c p.slot f)
  | .lsum p => iprop(∃ f, ⌜(slotPc p).view.read (Elt F) f = sumPc X c p⌝ ∗ slotP c p.slot f)
  | .oreg p => iprop(∃ g, oP c p g)
  | .oflt p => iprop(∃ f : S4x768x1024.Idx → Elt F .f32, ∃ g : S8192x1024.Idx → Elt F .f32, ⌜(slotPc p).view.read (Elt F) f = sumPc X c p⌝
      ∗ Transfers.Flight countersEmb (c : Thread nD τ) (.dma (outS p.slot).sem) () (oPc c p).view.dmaCredit
        iprop(oP c p ((oPc c p).view.write (Elt F) g ((slotPc p).view.read (Elt F) f) Finset.univ)
          ∗ (c : Thread nD τ).loc cc0_scratch3 ↦[(slotPc p).view.set]{fullShare} f)
      ∗ (c : Thread nD τ).loc cc0_scratch3 ↦[slotSet p.slot \ (slotPc p).view.set]{fullShare} f)
  | .odone p => iprop(∃ g, ⌜(oPc c p).view.read (Elt F) g = sumPc X c p⌝ ∗ oP c p g)

/-- A list of items held together. -/
def Res (c : Dev nD) (l : List At) : sProp 𝕄 := bigSepL l (atP X c)

/-- The item a remote copy reads from. -/
def Tr.src : Tr → At
  | .y p => .xs p
  | .r q => if h : q.val < 5 then .ch .y ⟨q.val, Nat.lt_trans h (by decide)⟩ 0
      else if h : q.val < 10 then .ch .l ⟨q.val - 5, Nat.lt_of_le_of_lt (Nat.sub_le _ _) q.isLt⟩ 0
      else .ch .y ⟨q.val - 5, Nat.lt_of_le_of_lt (Nat.sub_le _ _) (Nat.lt_succ_of_lt q.isLt)⟩ 0
  | .l q => if h : q.val < 10 then .ch .y ⟨q.val, Nat.lt_trans h (by decide)⟩ 1
      else if h : q.val < 15 then .ch .r ⟨q.val - 5, Nat.lt_of_le_of_lt (Nat.sub_le _ _) q.isLt⟩ 1
      else .ch .y ⟨q.val + 1, Nat.succ_lt_succ q.isLt⟩ 1

theorem src_eq (c : Dev nD) (t : Tr) : atP X c t.src = srcP X c t := by
  cases t with
  | y p => rfl
  | r q => simp only [Tr.src, srcP]; (repeat' split) <;> rfl
  | l q => simp only [Tr.src, srcP]; (repeat' split) <;> rfl

/-- The items a step takes, and those it gives. -/
def Op.pre : Op → List At
  | .signal i => [.btok i]
  | .waitBar => [.bcr, .bpos]
  | .send t => [.tok t, .dst t, t.src]
  | .waitRecv t => [.rcr t, .rpos t]
  | .waitSend t => [.scr t, .spos t]
  | .load p => [.xl p, .free p.slot, .isem p.slot]
  | .waitIn p => [.lflt p]
  | .add p => .lld p :: p.chunks.map fun k => .ch p.buf k 2
  | .out p => [.lsum p, .oreg p, .osem p.slot]
  | .waitOut p => [.oflt p]
def Op.post : Op → List At
  | .signal i => []
  | .waitBar => .bz :: Tr.all.map .dst
  | .send t => [.scr t]
  | .waitRecv t => [.rz t, .ch t.bf t.k 0, .ch t.bf t.k 1, .ch t.bf t.k 2]
  | .waitSend t => [.sz t, t.src]
  | .load p => [.lflt p]
  | .waitIn p => [.lld p, .isem p.slot, .xl p]
  | .add p => .lsum p :: p.chunks.map fun k => .ch p.buf k 2
  | .out p => [.oflt p]
  | .waitOut p => [.odone p, .osem p.slot, .free p.slot]

/-! ## The rules -/

/-- A buffer written through a view, as far as the view's elements go, is any contents that the view reads as the
values written. -/
theorem pts_write {sp : Space} {s : Shape} {e : EltTy} {κ : Kind} (v : View sig κ sp s e)
    (fd G : v.ty.Contents (Elt F)) (w : s.Idx → Elt F e) (h : v.read (Elt F) G = w) : ∀ i ∈ v.set, v.write (Elt F) fd w Finset.univ i = G i := by
  intro i hi
  obtain ⟨x, -, rfl⟩ := Finset.mem_map.mp hi
  have h1 := congrFun ((View.read_write_univ (Val := Elt F) (v := v) fd w).trans h.symm) x
  rw [View.read_apply, View.read_apply] at h1
  exact eq_of_heq ((cast_heq _ _).symm.trans ((heq_of_eq h1).trans (cast_heq _ _)))

/-- A wait for one of the protocol's semaphores: the whole round's payloads come, and the semaphore is then at zero for good. -/
theorem wait_core (c : Dev nD) (cl : Cl) {w : TpuEff nD τ sig (Elt F) Λ₀ .tc PUnit} {n : ℕ} (os : List Op)
    (hw : ∀ Kt : PUnit → sProp 𝕄, wpE' (defs₀ (F := F)) 𝒱₀ (c : Thread nD τ) none PendingWaitsCtx.empty Set.univ w Kt = waitSpec (c : Thread nD τ) Set.univ cl.sem n Kt)
    (hn : n = (Rd X).expect (cell c cl) 0) (ha : above (clLv (some cl)) os = true)
    {α : Type} {Q : α → sProp 𝕄} {k : PUnit → Prog (TpuEff nD τ sig (Elt F) Λ₀ .tc) α} :
    iprop(records X K ∗ levAts L lv ∗ cred (tallyAt (cell c cl) () n) ∗ atPos ER (cell c cl) 0 ∅ 0 ∗ ow c (debt c os))
      ⊢ iprop(((semVal (cell c cl) 0 ∗ (bigSep (dutiesOf (some cl)) fun d => payOf X c d (some cl)) ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  unfold ow
  iintro ⟨#HR, #Hlev, Hcr, Hat, ⟨%W, HO⟩⟩ Hk
  ihave #HI := (records_inv X K c cl) $$ HR
  iapply (Rounds.wp_wait_rest_token 𝒱₀ ER (Rd X) (c : Thread nD τ) none (κ := K (c, cl)) hw (Set.mem_univ _) () (O := debt c os) (W := W)
      (R := 0) (m := 0) (T := ∅) (by rw [Nat.zero_add]; exact hn)) $$ [Hcr HO Hat]
  · isplitr; · iexact HI
    isplitl [Hcr]; · iexact Hcr
    isplitl [HO]; · iexact HO
    isplitr
    · iapply (mayWait c cl.sem os (by rw [dec_sem]; exact ha)); iexact Hlev
    iexact Hat
  iintro ⟨HO, Hat, -, Hpay⟩
  imod (Rounds.cell_close ER (Rd X) (Set.mem_univ (K (c, cl))) (fun h => h) (R := 0 + 1) (duties_later X (cell c cl))) $$ [Hat] with Hz
  · isplitr; · iexact HI
    iexact Hat
  iapply Hk
  isplitl [Hz]; · iexact Hz
  isplitl [Hpay]
  · rw [Finset.sdiff_empty, duties_eq]
    simp only [payload_eq]
    iexact Hpay
  iexists _; iexact HO

/-- A remote copy. -/
theorem send_core (c n : Dev nD) (t : Tr) (hn : n = t.tgt c) (os : List Op) {sp : Space} (M : Memref sig .tc sp S128x1024 .f32)
    (D : Memref sig .tc .vmem S128x1024 .f32) {q : PosShare TreeShare} (fs : Buf (Elt F) (M.view.loc (c : Thread nD τ)))
    (G : Buf (Elt F) (D.view.loc (t.tgt c : Thread nD τ)))
    (hs : srcP X c t = (M.view.loc (c : Thread nD τ) ↦[M.view.set]{q} fs : sProp 𝕄))
    (hd : rawP (F := F) (t.tgt c) t.bf t.k
      = iprop(∃ f : Buf (Elt F) (D.view.loc (t.tgt c : Thread nD τ)), (D.view.loc (t.tgt c : Thread nD τ) ↦[D.view.set]{fullShare} f : sProp 𝕄)))
    (hl : chP X (t.tgt c) t.bf t.k fullShare = (D.view.loc (t.tgt c : Thread nD τ) ↦[D.view.set]{fullShare} G : sProp 𝕄))
    (hr : D.view.read (Elt F) G = M.view.read (Elt F) fs)
    (hN : D.view.dmaCredit = N)
    {hsc : D.view.ref.isScScratch = false} {hsrc : M.view.WordExact} {hdst : D.view.WordExact}
    {hsem : DmaTarget.Typed sp (.dma t.rS) (.remote (Dev.tc n : Thread nD τ) D (.dma t.sS) hsc)}
    {α : Type} {Q : α → sProp 𝕄} {k : PUnit → Prog (TpuEff nD τ sig (Elt F) Λ₀ .tc) α} :
    iprop(records X K ∗ (dutyTok ER (cell c (.s t)) 0 0 ∗ dutyTok ER (cell (t.tgt c) (.r t)) 0 0) ∗ rawP (t.tgt c) t.bf t.k ∗ srcP X c t
        ∗ ow c (debt c (.send t :: os)))
      ⊢ iprop(((cred (tallyAt (cell c (.s t)) () N) ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n : Thread nD τ) D (.dma t.sS) hsc) (.dma t.rS) hsrc hdst hsem) k) Q) := by
  subst hn
  unfold ow
  rw [hs, hd]
  iintro ⟨#HR, ⟨Ht1, Ht2⟩, ⟨%fd, Hd⟩, Hs, ⟨%W, HO⟩⟩ Hk
  ihave #HI1 := (records_inv X K c (.s t)) $$ HR
  ihave #HI2 := (records_inv X K (t.tgt c) (.r t)) $$ HR
  ihave #HR1 := (records_reached X K c (.s t)) $$ HR
  ihave #HR2 := (records_reached X K (t.tgt c) (.r t)) $$ HR
  iapply (Rounds.wp_send_pointsTo 𝒱₀ ER (Rd X) (c : Thread nD τ) none (κ₁ := K (c, .s t)) (κ₂ := K (t.tgt c, .r t))
    (r₁ := 0) (r₂ := 0) (d₁ := 0) (d₂ := 0) (fd := fd) (sS := .dma t.sS) (sem := .dma t.rS)
    (by rw [show ((c : Thread nD τ), SemLoc.dma t.sS) = cell c (.s t) from rfl, duties_eq]; exact Finset.mem_singleton_self _)
    (by rw [show ((t.tgt c : Thread nD τ), SemLoc.dma t.rS) = cell (t.tgt c) (.r t) from rfl, duties_eq]; exact Finset.mem_singleton_self _)
    () () N hN (amount_eq X c (.s t) 0 0) (amount_eq X (t.tgt c) (.r t) 0 0) (debt c os) rfl (W := W)
    (by rw [show ((c : Thread nD τ), SemLoc.dma t.sS) = cell c (.s t) from rfl, payload_eq]; exact Entails.of_eq hs.symm)
    (by
      rw [show ((t.tgt c : Thread nD τ), SemLoc.dma t.rS) = cell (t.tgt c) (.r t) from rfl, payload_eq]
      show _ ⊢ chP X (t.tgt c) t.bf t.k fullShare
      rw [hl]
      exact Entails.of_eq (pointsTo_congr (pts_write D.view fd G _ hr)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

end Cert.KernelIdeal.K5

end
-- ==== Proof.KernelIdeal.Rules.lean ====
/-
# Each kind of step may be run from the items it takes

`op_sound`: from the shared records, the items a step takes and what the device owes, the step runs, and gives its items.
-/
module

public import proofs.«01_k».proof.Proof.KernelIdeal.Steps

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (X : Args F) (K : Dev nD × Cl → ℕ)

/-! ## The landed rows of a piece, loaded -/

/-- The chunks of a piece, in a landing buffer. -/
def piece (p : Pc) (b : Bf) : Finset (Fin b.n) := Finset.univ.filter fun k => p.at ≤ k.val ∧ k.val < p.at + p.h / 128

theorem chunks_join' (c : Dev nD) (p : Pc) (q : PosShare TreeShare) (b : Bf) (hb : p.buf = b) :
    bigSepL p.chunks (fun k => chP X c p.buf k q)
      = ((c : Thread nD τ).loc b.ref ↦[(piece p b).biUnion (chSet c b)]{q} BB X c b : sProp 𝕄) := by
  subst hb
  rw [chunks_join, show p.chunks.toFinset = piece p p.buf from ?_]
  ext k
  rw [List.mem_toFinset, Pc.mem_chunks, piece, Finset.mem_filter]
  exact ⟨fun h => ⟨Finset.mem_univ _, h⟩, fun h => h.2⟩

/-- A row of the piece lies in one of its chunks. -/
theorem piece_chunk (p : Pc) (b : Bf) (hb : p.buf = b) {r : ℕ} (h0 : 128 * p.at ≤ r) (h1 : r < 128 * p.at + p.h) :
    ∃ k : Fin b.n, k ∈ piece p b ∧ 128 * k.val ≤ r ∧ r < 128 * k.val + 128 := by
  have h2 := p.at_le
  have h3 := p.h_div
  rw [hb] at h2
  have h4 : r / 128 < b.n := by omega
  exact ⟨⟨r / 128, h4⟩, Finset.mem_filter.mpr ⟨Finset.mem_univ _, by dsimp only; omega⟩, by dsimp only; omega⟩

theorem landed_eq (c : Dev nD) (p : Pc) (b : Bf) (hb : p.buf = b) :
    landed X c p = fun x => bval X c b (128 * p.at + (x 0).val) (x 1).val := by subst hb; rfl

theorem acc_y (r : Rect S2816x1024) : (yM.access r).set = r.set := View.set_slice_whole _ _
theorem rd_y (c : Dev nD) (p : Pc) (hb : p.buf = .y) (inb : ∀ a, (![128 * p.at, 0] : Fin 2 → ℕ) a + (Sh p.h).size a ≤ S2816x1024.size a) :
    (yM.access (Rect.unit (s := S2816x1024) ![128 * p.at, 0] (Sh p.h).size inb)).read (Elt F) (YB X c) = landed X c p := by
  rw [landed_eq X c p _ hb]
  funext x
  show yv X c (128 * p.at + 1 * (x 0).val) (0 + 1 * (x 1).val) = yv X c _ _
  rw [Nat.one_mul, Nat.one_mul, Nat.zero_add]
theorem sub_y (c : Dev nD) (p : Pc) (hb : p.buf = .y) (inb : ∀ a, (![128 * p.at, 0] : Fin 2 → ℕ) a + (Sh p.h).size a ≤ S2816x1024.size a) :
    (yM.access (Rect.unit (s := S2816x1024) ![128 * p.at, 0] (Sh p.h).size inb)).set ⊆ (piece p .y).biUnion (chSet c .y) := by
  intro i hi
  rw [acc_y] at hi
  obtain ⟨h0, h1⟩ := (mem_rows (n := 2816) (h := p.h) inb i).mp hi
  obtain ⟨k, hk, hr⟩ := piece_chunk p .y hb h0 h1
  exact Finset.mem_biUnion.mpr ⟨k, hk, (mem_yChunk k i).mpr hr⟩

theorem acc_l (r : Rect S2688x1024) : (lM.access r).set = r.set := View.set_slice_whole _ _
theorem rd_l (c : Dev nD) (p : Pc) (hb : p.buf = .l) (inb : ∀ a, (![128 * p.at, 0] : Fin 2 → ℕ) a + (Sh p.h).size a ≤ S2688x1024.size a) :
    (lM.access (Rect.unit (s := S2688x1024) ![128 * p.at, 0] (Sh p.h).size inb)).read (Elt F) (LB X c) = landed X c p := by
  rw [landed_eq X c p _ hb]
  funext x
  show lv' X c (128 * p.at + 1 * (x 0).val) (0 + 1 * (x 1).val) = lv' X c _ _
  rw [Nat.one_mul, Nat.one_mul, Nat.zero_add]
theorem sub_l (c : Dev nD) (p : Pc) (hb : p.buf = .l) (inb : ∀ a, (![128 * p.at, 0] : Fin 2 → ℕ) a + (Sh p.h).size a ≤ S2688x1024.size a) :
    (lM.access (Rect.unit (s := S2688x1024) ![128 * p.at, 0] (Sh p.h).size inb)).set ⊆ (piece p .l).biUnion (chSet c .l) := by
  intro i hi
  rw [acc_l] at hi
  obtain ⟨h0, h1⟩ := (mem_rows (n := 2688) (h := p.h) inb i).mp hi
  obtain ⟨k, hk, hr⟩ := piece_chunk p .l hb h0 h1
  exact Finset.mem_biUnion.mpr ⟨k, hk, (mem_lChunk k i).mpr hr⟩

theorem acc_r (r : Rect S2688x1024) : (rM.access r).set = r.set := View.set_slice_whole _ _
theorem rd_r (c : Dev nD) (p : Pc) (hb : p.buf = .r) (inb : ∀ a, (![128 * p.at, 0] : Fin 2 → ℕ) a + (Sh p.h).size a ≤ S2688x1024.size a) :
    (rM.access (Rect.unit (s := S2688x1024) ![128 * p.at, 0] (Sh p.h).size inb)).read (Elt F) (RB X c) = landed X c p := by
  rw [landed_eq X c p _ hb]
  funext x
  show rv X c (128 * p.at + 1 * (x 0).val) (0 + 1 * (x 1).val) = rv X c _ _
  rw [Nat.one_mul, Nat.one_mul, Nat.zero_add]
theorem sub_r (c : Dev nD) (p : Pc) (hb : p.buf = .r) (inb : ∀ a, (![128 * p.at, 0] : Fin 2 → ℕ) a + (Sh p.h).size a ≤ S2688x1024.size a) :
    (rM.access (Rect.unit (s := S2688x1024) ![128 * p.at, 0] (Sh p.h).size inb)).set ⊆ (piece p .r).biUnion (chSet c .r) := by
  intro i hi
  rw [acc_r] at hi
  obtain ⟨h0, h1⟩ := (mem_rows (n := 2688) (h := p.h) inb i).mp hi
  obtain ⟨k, hk, hr⟩ := piece_chunk p .r hb h0 h1
  exact Finset.mem_biUnion.mpr ⟨k, hk, (mem_rChunk k i).mpr hr⟩

theorem ld_y (c : Dev nD) (p : Pc) (hb : p.buf = .y) (inb : ∀ a, (![128 * p.at, 0] : Fin 2 → ℕ) a + (Sh p.h).size a ≤ S2816x1024.size a)
    (hl : yM.view.LoadsAt (Rect.unit (s := S2816x1024) ![128 * p.at, 0] (Sh p.h).size inb).toLoadRect)
    {α : Type} {Q : α → sProp 𝕄} {k : Vec F (Sh p.h) .f32 → Prog (TpuEff nD τ sig (Elt F) Λ₀ .tc) α} :
    ((c : Thread nD τ).loc (Bf.ref .y) ↦[(piece p .y).biUnion (chSet c .y)]{sh 2} BB X c .y : sProp 𝕄)
      ⊢ iprop((((c : Thread nD τ).loc (Bf.ref .y) ↦[(piece p .y).biUnion (chSet c .y)]{sh 2} BB X c .y : sProp 𝕄)
            -∗ wp frame (wpE (defs₀ (F := F)) 𝒱₀ (c : Thread nD τ) none) Set.univ (k (landed X c p)) Q)
          -∗ wp frame (wpE (defs₀ (F := F)) 𝒱₀ (c : Thread nD τ) none) Set.univ
              (.op (.load yM (Rect.unit (s := S2816x1024) ![128 * p.at, 0] (Sh p.h).size inb).toLoadRect hl) k) Q) := by
  rw [← rd_y X c p hb inb]
  have hS := sub_y c p hb inb
  rw [show (yM.access (Rect.unit _ (Sh p.h).size inb)).set = _ from View.set_slice _ _] at hS
  iintro H Hk
  iapply (wp_load 𝒱₀ (c : Thread nD τ) none Set.univ (m := yM) hS) $$ H
  iexact Hk

theorem ld_l (c : Dev nD) (p : Pc) (hb : p.buf = .l) (inb : ∀ a, (![128 * p.at, 0] : Fin 2 → ℕ) a + (Sh p.h).size a ≤ S2688x1024.size a)
    (hl : lM.view.LoadsAt (Rect.unit (s := S2688x1024) ![128 * p.at, 0] (Sh p.h).size inb).toLoadRect)
    {α : Type} {Q : α → sProp 𝕄} {k : Vec F (Sh p.h) .f32 → Prog (TpuEff nD τ sig (Elt F) Λ₀ .tc) α} :
    ((c : Thread nD τ).loc (Bf.ref .l) ↦[(piece p .l).biUnion (chSet c .l)]{sh 2} BB X c .l : sProp 𝕄)
      ⊢ iprop((((c : Thread nD τ).loc (Bf.ref .l) ↦[(piece p .l).biUnion (chSet c .l)]{sh 2} BB X c .l : sProp 𝕄)
            -∗ wp frame (wpE (defs₀ (F := F)) 𝒱₀ (c : Thread nD τ) none) Set.univ (k (landed X c p)) Q)
          -∗ wp frame (wpE (defs₀ (F := F)) 𝒱₀ (c : Thread nD τ) none) Set.univ
              (.op (.load lM (Rect.unit (s := S2688x1024) ![128 * p.at, 0] (Sh p.h).size inb).toLoadRect hl) k) Q) := by
  rw [← rd_l X c p hb inb]
  have hS := sub_l c p hb inb
  rw [show (lM.access (Rect.unit _ (Sh p.h).size inb)).set = _ from View.set_slice _ _] at hS
  iintro H Hk
  iapply (wp_load 𝒱₀ (c : Thread nD τ) none Set.univ (m := lM) hS) $$ H
  iexact Hk

theorem ld_r (c : Dev nD) (p : Pc) (hb : p.buf = .r) (inb : ∀ a, (![128 * p.at, 0] : Fin 2 → ℕ) a + (Sh p.h).size a ≤ S2688x1024.size a)
    (hl : rM.view.LoadsAt (Rect.unit (s := S2688x1024) ![128 * p.at, 0] (Sh p.h).size inb).toLoadRect)
    {α : Type} {Q : α → sProp 𝕄} {k : Vec F (Sh p.h) .f32 → Prog (TpuEff nD τ sig (Elt F) Λ₀ .tc) α} :
    ((c : Thread nD τ).loc (Bf.ref .r) ↦[(piece p .r).biUnion (chSet c .r)]{sh 2} BB X c .r : sProp 𝕄)
      ⊢ iprop((((c : Thread nD τ).loc (Bf.ref .r) ↦[(piece p .r).biUnion (chSet c .r)]{sh 2} BB X c .r : sProp 𝕄)
            -∗ wp frame (wpE (defs₀ (F := F)) 𝒱₀ (c : Thread nD τ) none) Set.univ (k (landed X c p)) Q)
          -∗ wp frame (wpE (defs₀ (F := F)) 𝒱₀ (c : Thread nD τ) none) Set.univ
              (.op (.load rM (Rect.unit (s := S2688x1024) ![128 * p.at, 0] (Sh p.h).size inb).toLoadRect hl) k) Q) := by
  rw [← rd_r X c p hb inb]
  have hS := sub_r c p hb inb
  rw [show (rM.access (Rect.unit _ (Sh p.h).size inb)).set = _ from View.set_slice _ _] at hS
  iintro H Hk
  iapply (wp_load 𝒱₀ (c : Thread nD τ) none Set.univ (m := rM) hS) $$ H
  iexact Hk

/-- The load of the landed rows. -/
theorem ld_sound (c : Dev nD) (p : Pc) {α : Type} {Q : α → sProp 𝕄} {k : Vec F (Sh p.h) .f32 → Prog (TpuEff nD τ sig (Elt F) Λ₀ .tc) α} :
    bigSepL p.chunks (fun k => chP X c p.buf k (sh 2))
      ⊢ iprop((bigSepL p.chunks (fun k => chP X c p.buf k (sh 2))
            -∗ wp frame (wpE (defs₀ (F := F)) 𝒱₀ (c : Thread nD τ) none) Set.univ (k (landed X c p)) Q)
          -∗ wp frame (wpE (defs₀ (F := F)) 𝒱₀ (c : Thread nD τ) none) Set.univ (ldBuf p >>= k) Q) := by
  unfold ldBuf
  split
  · rename_i hb
    rw [chunks_join' X c p _ .y hb]
    exact ld_y X c p hb _ _
  · rename_i hb
    rw [chunks_join' X c p _ .l hb]
    exact ld_l X c p hb _ _
  · rename_i hb
    rw [chunks_join' X c p _ .r hb]
    exact ld_r X c p hb _ _

/-! ## The rules by kind -/

section
variable {α : Type} {Q : α → sProp 𝕄} {k : PUnit → Prog (TpuEff nD τ sig (Elt F) Λ₀ .tc) α}

/-- What it means that step `o` runs before steps `os`. -/
def Sound (c : Dev nD) (o : Op) (os : List Op) : Prop :=
  ∀ {α : Type} {Q : α → sProp 𝕄} {k : PUnit → Prog (TpuEff nD τ sig (Elt F) Λ₀ .tc) α},
    iprop(records X K ∗ levAts L lv ∗ Res X c o.pre ∗ ow c (debt c (o :: os)))
      ⊢ iprop(((Res X c o.post ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ (o.run c >>= k) Q)

theorem sound_signal (c : Dev nD) (i : Fin 3) (os : List Op) : Sound X K c (.signal i) os := by
  intro α Q k
  have e : (Op.run (F := F) c (.signal i) >>= k) = .op (.semSignal (Dev.tc (bTgt c (role c i)) : Thread nD τ) barS.sem (1#32 : BitVec 32).toInt) k := by
    rw [← sigDev_eq]; rfl
  rw [e]
  unfold Res ow
  simp only [Op.pre, Op.post, bigSepL_cons', bigSepL_nil, atP]
  iintro ⟨#HR, -, ⟨⟨Ht, Hp⟩, -⟩, ⟨%W, HO⟩⟩ Hk
  ihave #HI := (records_inv X K (bTgt c (role c i)) .bar) $$ HR
  ihave #HR1 := (records_reached X K (bTgt c (role c i)) .bar) $$ HR
  iapply (Rounds.wp_signal 𝒱₀ ER (Rd X) (c : Thread nD τ) none (dst := (bTgt c (role c i) : Thread nD τ)) (κ := K (bTgt c (role c i), .bar))
    (r := 0) (d := role c i)
    (by rw [show ((bTgt c (role c i) : Thread nD τ), SemLoc.reg barS.sem) = cell (bTgt c (role c i)) .bar from rfl, duties_eq]; exact Finset.mem_univ _)
    (by rw [show ((bTgt c (role c i) : Thread nD τ), SemLoc.reg barS.sem) = cell (bTgt c (role c i)) .bar from rfl, amount_eq]; decide)
    () (debt c os) (W := W) rfl) $$ [HO Ht Hp]
  · isplitr; · iexact HI
    isplitl [HO]; · iexact HO
    isplitl [Ht]; · iexact Ht
    isplitl [Hp]
    · rw [show (Rd X).payload ((bTgt c (role c i) : Thread nD τ), SemLoc.reg barS.sem) 0 (role c i) = barP (bTgt c (role c i)) (role c i)
        from payload_eq X _ .bar 0 _]
      iexact Hp
    iexact HR1
  iintro HO
  iapply Hk
  isplitr; · iempintro
  iexists W; iexact HO

theorem sound_waitBar (c : Dev nD) (os : List Op) (ha : above 1 os = true) : Sound X K c .waitBar os := by
  intro α Q k
  have e : (Op.run (F := F) c .waitBar >>= k) = .op (.semWait barS.sem (3#32 : BitVec 32).toInt) k := rfl
  have hp : (bigSep (dutiesOf (some .bar)) fun d => payOf X c d (some .bar)) ⊢ bigSepL (Tr.all.map At.dst) (atP X c) := by
    show (bigSep Finset.univ fun d : Fin 3 => barP (F := F) c d) ⊢ _
    rw [bigSep_univ_eq_bigSepL [0, 1, 2] (by decide) (by decide)]
    simp only [bigSepL_cons', bigSepL_nil, Tr.all, List.map_append, List.map_map]
    rw [bigSepL_append, bigSepL_append, bigSepL_map, bigSepL_map, bigSepL_map]
    have h0 : barP (F := F) c 0 = bigSepL (List.finRange 22) (fun p => atP X c (.dst (.y p))) :=
      bigSep_univ_eq_bigSepL (List.finRange 22) (by decide) (by decide) _
    have h1 : barP (F := F) c 1 = bigSepL (List.finRange 21) (fun p => atP X c (.dst (.r p))) :=
      bigSep_univ_eq_bigSepL (List.finRange 21) (by decide) (by decide) _
    have h2 : barP (F := F) c 2 = bigSepL (List.finRange 21) (fun p => atP X c (.dst (.l p))) :=
      bigSep_univ_eq_bigSepL (List.finRange 21) (by decide) (by decide) _
    rw [h0, h1, h2]
    iintro ⟨H0, H1, H2, -⟩
    isplitl [H0 H1]
    · isplitl [H0]; · iexact H0
      iexact H1
    iexact H2
  rw [e]
  unfold Res
  simp only [Op.pre, Op.post, bigSepL_cons', bigSepL_nil, atP]
  rw [show debt c (.waitBar :: os) = debt c os from add_zero _]
  iintro ⟨#HR, #Hlev, ⟨Hcr, Hpos, -⟩, HO⟩ Hk
  iapply (wait_core X K c .bar os (n := 3) (wpE_semWait_eq 𝒱₀ (c : Thread nD τ) none Set.univ) (expect_bar X c).symm ha) $$ [Hcr Hpos HO]
  · isplitr; · iexact HR
    isplitr; · iexact Hlev
    isplitl [Hcr]; · iexact Hcr
    isplitl [Hpos]; · iexact Hpos
    iexact HO
  iintro ⟨Hz, Hp, HO⟩
  iapply Hk
  isplitr [HO]
  · isplitl [Hz]; · iexact Hz
    iapply hp; iexact Hp
  iexact HO

/-- A wait for a copy's arrival, or for its source: the payload comes. -/
theorem dma_wait (c : Dev nD) (cl : Cl) (hc : cl ≠ .bar) {sm : DmaSem sig} (hsm : cl.sem = .dma sm) (os : List Op)
    {s' s'' : Shape} {e' e'' : EltTy} {sp sp' : Space}
    (src : Memref sig .tc sp s' e') (dst : Memref sig .tc sp' s'' e'') {h₁ : src.view.WordExact} {h₂ : dst.view.WordExact}
    (hN : dst.view.dmaCredit = N) (ha : above (clLv (some cl)) os = true)
    {α : Type} {Q : α → sProp 𝕄} {k : PUnit → Prog (TpuEff nD τ sig (Elt F) Λ₀ .tc) α} :
    iprop(records X K ∗ levAts L lv ∗ cred (tallyAt (cell c cl) () N) ∗ atPos ER (cell c cl) 0 ∅ 0 ∗ ow c (debt c os))
      ⊢ iprop(((semVal (cell c cl) 0 ∗ payOf X c 0 (some cl) ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h₁ h₂) k) Q) := by
  have hE : (Rd X).expect (cell c cl) 0 = N := by
    cases cl with
    | bar => exact absurd rfl hc
    | s t => exact expect_s X c t
    | r t => exact expect_r X c t
  have hd : dutiesOf (some cl) = {0} := by
    cases cl with
    | bar => exact absurd rfl hc
    | s t => rfl
    | r t => rfl
  have h := wait_core X K c cl (w := .waitDma2 sm src dst h₁ h₂) (n := N) os
    (fun Kt => by rw [hsm, ← hN]; exact wpE_waitDma2_eq 𝒱₀ (c : Thread nD τ) none Set.univ Kt) hE.symm ha (Q := Q) (k := k)
  rw [hd, bigSep_singleton] at h
  exact h

theorem sound_waitRecv (c : Dev nD) (t : Tr) (os : List Op) (ha : above (2 + t.pos) os = true) : Sound X K c (.waitRecv t) os := by
  intro α Q k
  have core : iprop(records X K ∗ levAts L lv ∗ cred (tallyAt (cell c (.r t)) () N) ∗ atPos ER (cell c (.r t)) 0 ∅ 0 ∗ ow c (debt c os))
      ⊢ iprop(((semVal (cell c (.r t)) 0 ∗ payOf X c 0 (some (.r t)) ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ (Op.run c (.waitRecv t) >>= k) Q) := by
    cases t with
    | y p => exact dma_wait X K c (.r (.y p)) (by simp) rfl os (xChunk c p) (yChunk p) rfl ha
    | r q => exact dma_wait X K c (.r (.r q)) (by simp) rfl os (lChunk q) (lChunk q) rfl ha
    | l q => exact dma_wait X K c (.r (.l q)) (by simp) rfl os (rChunk q) (rChunk q) rfl ha
  have hs : payOf X c 0 (some (.r t)) ⊢ iprop(chP X c t.bf t.k (sh 0) ∗ chP X c t.bf t.k (sh 1) ∗ chP X c t.bf t.k (sh 2)) := by
    show chP X c t.bf t.k fullShare ⊢ _
    rw [chP_eq, chP_eq, chP_eq, chP_eq]
    exact (Ring.pointsTo_thirds _ _).1
  unfold Res
  simp only [Op.pre, Op.post, bigSepL_cons', bigSepL_nil, atP]
  rw [show debt c (.waitRecv t :: os) = debt c os from add_zero _]
  iintro ⟨#HR, #Hlev, ⟨Hcr, Hpos, -⟩, HO⟩ Hk
  iapply core $$ [Hcr Hpos HO]
  · isplitr; · iexact HR
    isplitr; · iexact Hlev
    isplitl [Hcr]; · iexact Hcr
    isplitl [Hpos]; · iexact Hpos
    iexact HO
  iintro ⟨Hz, Hp, HO⟩
  ihave Hp := hs $$ Hp
  icases Hp with ⟨H0, H1, H2⟩
  iapply Hk
  isplitr [HO]
  · isplitl [Hz]; · iexact Hz
    isplitl [H0]; · iexact H0
    isplitl [H1]; · iexact H1
    isplitl [H2]; · iexact H2
    iempintro
  iexact HO

theorem sound_waitSend (c : Dev nD) (t : Tr) (os : List Op) (ha : above 0 os = true) : Sound X K c (.waitSend t) os := by
  intro α Q k
  have core : iprop(records X K ∗ levAts L lv ∗ cred (tallyAt (cell c (.s t)) () N) ∗ atPos ER (cell c (.s t)) 0 ∅ 0 ∗ ow c (debt c os))
      ⊢ iprop(((semVal (cell c (.s t)) 0 ∗ payOf X c 0 (some (.s t)) ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ (Op.run c (.waitSend t) >>= k) Q) := by
    cases t with
    | y p => exact dma_wait X K c (.s (.y p)) (by simp) rfl os (yChunk p) (xChunk c p) rfl ha
    | r q => exact dma_wait X K c (.s (.r q)) (by simp) rfl os (lChunk q) (rSrc q) rfl ha
    | l q => exact dma_wait X K c (.s (.l q)) (by simp) rfl os (rChunk q) (lSrc q) rfl ha
  have hp : payOf X c 0 (some (.s t)) = srcP X c t := rfl
  rw [hp] at core
  unfold Res
  simp only [Op.pre, Op.post, bigSepL_cons', bigSepL_nil, src_eq]
  simp only [atP]
  rw [show debt c (.waitSend t :: os) = debt c os from add_zero _]
  iintro ⟨#HR, #Hlev, ⟨Hcr, Hpos, -⟩, HO⟩ Hk
  iapply core $$ [Hcr Hpos HO]
  · isplitr; · iexact HR
    isplitr; · iexact Hlev
    isplitl [Hcr]; · iexact Hcr
    isplitl [Hpos]; · iexact Hpos
    iexact HO
  iintro ⟨Hz, Hp, HO⟩
  iapply Hk
  isplitr [HO]
  · isplitl [Hz]; · iexact Hz
    isplitl [Hp]; · iexact Hp
    iempintro
  iexact HO

/-- The source of a copy to the right, and what it reads: the rows the copy leaves at the right neighbour. -/
theorem right_src (c : Dev nD) (q : Fin 21) : ∃ (q' : PosShare TreeShare) (fs : Buf (Elt F) ((rSrc q).view.loc (c : Thread nD τ))),
    srcP X c (.r q) = ((rSrc q).view.loc (c : Thread nD τ) ↦[(rSrc q).view.set]{q'} fs : sProp 𝕄)
      ∧ (lChunk q).view.read (Elt F) (LB X (right c)) = (rSrc q).view.read (Elt F) fs := by
  simp only [srcP]
  by_cases h : q.val < 5
  · rw [rSrc, dif_pos h, dif_pos h]
    exact ⟨_, YB X c, rfl, land_r1 X c q h⟩
  · by_cases h' : q.val < 10
    · rw [rSrc, dif_neg h, dif_neg h, dif_pos h', dif_pos h']
      exact ⟨_, LB X c, rfl, land_r2 X c q h h'⟩
    · rw [rSrc, dif_neg h, dif_neg h, dif_neg h', dif_neg h']
      exact ⟨_, YB X c, rfl, land_r3 X c q h h'⟩
/-- The same of a copy to the left. -/
theorem left_src (c : Dev nD) (q : Fin 21) : ∃ (q' : PosShare TreeShare) (fs : Buf (Elt F) ((lSrc q).view.loc (c : Thread nD τ))),
    srcP X c (.l q) = ((lSrc q).view.loc (c : Thread nD τ) ↦[(lSrc q).view.set]{q'} fs : sProp 𝕄)
      ∧ (rChunk q).view.read (Elt F) (RB X (left c)) = (lSrc q).view.read (Elt F) fs := by
  simp only [srcP]
  by_cases h : q.val < 10
  · rw [lSrc, dif_pos h, dif_pos h]
    exact ⟨_, YB X c, rfl, land_l1 X c q h⟩
  · by_cases h' : q.val < 15
    · rw [lSrc, dif_neg h, dif_neg h, dif_pos h', dif_pos h']
      exact ⟨_, RB X c, rfl, land_l2 X c q h h'⟩
    · rw [lSrc, dif_neg h, dif_neg h, dif_neg h', dif_neg h']
      exact ⟨_, YB X c, rfl, land_l3 X c q h h'⟩

theorem sound_send (c : Dev nD) (t : Tr) (os : List Op) : Sound X K c (.send t) os := by
  intro α Q k
  have core : iprop(records X K ∗ (dutyTok ER (cell c (.s t)) 0 0 ∗ dutyTok ER (cell (t.tgt c) (.r t)) 0 0) ∗ rawP (t.tgt c) t.bf t.k ∗ srcP X c t
        ∗ ow c (debt c (.send t :: os)))
      ⊢ iprop(((cred (tallyAt (cell c (.s t)) () N) ∗ ow c (debt c os))
            -∗ wp frame (wpE (defs₀ (F := F)) 𝒱₀ (c : Thread nD τ) none) Set.univ (k ⟨⟩) Q)
          -∗ wp frame (wpE (defs₀ (F := F)) 𝒱₀ (c : Thread nD τ) none) Set.univ (Op.run c (.send t) >>= k) Q) := by
    cases t with
    | y p => exact send_core X K c (yDev p c) (.y p) (yDev_eq c p) os (xChunk c p) (yChunk p) (X c) (YB X (partner c)) rfl rfl rfl (land_y X c p) rfl
    | r q =>
      obtain ⟨q', fs, hs, hr⟩ := right_src X c q
      exact send_core X K c (rDev q c) (.r q) (rDev_eq c q) os (rSrc q) (lChunk q) fs (LB X (right c)) hs rfl rfl hr rfl
    | l q =>
      obtain ⟨q', fs, hs, hr⟩ := left_src X c q
      exact send_core X K c (lDev q c) (.l q) (lDev_eq c q) os (lSrc q) (rChunk q) fs (RB X (left c)) hs rfl rfl hr rfl
  unfold Res
  simp only [Op.pre, Op.post, bigSepL_cons', bigSepL_nil, src_eq]
  simp only [atP]
  iintro ⟨#HR, #Hlev, ⟨Ht, Hd, Hs, -⟩, HO⟩ Hk
  iapply core $$ [Ht Hd Hs HO]
  · isplitr; · iexact HR
    isplitl [Ht]; · iexact Ht
    isplitl [Hd]; · iexact Hd
    isplitl [Hs]; · iexact Hs
    iexact HO
  iintro ⟨Hc, HO⟩
  iapply Hk
  isplitr [HO]
  · isplitl [Hc]; · iexact Hc
    iempintro
  iexact HO

/-! ## The local copies and the sum -/

theorem slot_pos (p : Pc) : 0 < (slotPc p).view.dmaCredit := View.dmaCredit_pos _ (pos_Sh p)

theorem sound_load (c : Dev nD) (p : Pc) (os : List Op) : Sound X K c (.load p) os := by
  intro α Q k
  have e : (Op.run (F := F) c (.load p) >>= k) = .op (.enqueueDma (xPc c p) (.here (slotPc p)) (.dma (inS p.slot).sem) (View.wordExact_bits rfl)
    (View.wordExact_bits rfl) ⟨Or.inl rfl, trivial⟩) k := rfl
  rw [e]
  unfold Res
  simp only [Op.pre, Op.post, bigSepL_cons', bigSepL_nil, atP, slotP, xlP]
  rw [show debt c (.load p :: os) = debt c os from add_zero _]
  iintro ⟨-, -, ⟨Hx, ⟨%f, Hf⟩, Hs, -⟩, HO⟩ Hk
  iapply (Transfers.wp_dmaLocal countersEmb 𝒱₀ (c : Thread nD τ) none () (slotPc p).view.dmaCredit rfl (slot_pos p) (slotPc_sub p)) $$ [Hx Hf Hs]
  · isplitl [Hx]; · iexact Hx
    isplitl [Hf]; · iexact Hf
    iexact Hs
  iintro HF
  iapply Hk
  isplitl [HF]
  · isplitl
    · iexists f; iexact HF
    iempintro
  iexact HO

theorem sound_waitIn (c : Dev nD) (p : Pc) (os : List Op) (ha : above 0 os = true) : Sound X K c (.waitIn p) os := by
  intro α Q k
  have e : (Op.run (F := F) c (.waitIn p) >>= k) = .op (.waitDma2 (inS p.slot).sem (xPc c p) (slotPc p) (View.wordExact_bits rfl)
    (View.wordExact_bits rfl)) k := rfl
  rw [e]
  unfold Res ow
  simp only [Op.pre, Op.post, bigSepL_cons', bigSepL_nil, atP, slotP, xlP]
  rw [show debt c (.waitIn p :: os) = debt c os from add_zero _]
  iintro ⟨-, #Hlev, ⟨⟨%f, HF⟩, -⟩, ⟨%W, HO⟩⟩ Hk
  iapply (Transfers.wp_waitLocalO countersEmb 𝒱₀ (c : Thread nD τ) none () rfl) $$ [HF HO]
  · isplitl [HF]; · iexact HF
    isplitl [HO]; · iexact HO
    iapply (mayWait c (.dma (inS p.slot).sem) os (by rw [dec_inS]; exact ha)); iexact Hlev
  iintro ⟨⟨Hs, Hx⟩, Hz, HO⟩
  iapply Hk
  isplitr [HO]
  · isplitl [Hs]
    · iexists ((slotPc p).view.write (Elt F) f ((xPc c p).view.read (Elt F) (X c)) Finset.univ)
      isplitr
      · ipureintro; exact View.read_write_univ _ _
      iexact Hs
    isplitl [Hz]; · iexact Hz
    isplitl [Hx]; · iexact Hx
    iempintro
  iexists _; iexact HO

theorem slot_split (c : Dev nD) (p : Pc) (f : S4x768x1024.Idx → Elt F .f32) :
    slotP c p.slot f
      ⊣⊢ iprop(((c : Thread nD τ).loc cc0_scratch3 ↦[(slotPc p).view.set]{fullShare} f)
        ∗ ((c : Thread nD τ).loc cc0_scratch3 ↦[slotSet p.slot \ (slotPc p).view.set]{fullShare} f)) :=
  pointsTo_split_subset (ℓ := (c : Thread nD τ).loc cc0_scratch3) (slotPc_sub p)
theorem slot_load (p : Pc) : bM.view.setOn (slotRect p).toLoadRect.set ⊆ slotSet p.slot := by
  have h := slotPc3_sub p
  rwa [show (slotPc3 p).view.set = _ from View.set_slice _ _] at h
theorem slot_store (p : Pc) : (bM.access (slotRect p)).setOn Finset.univ ⊆ slotSet p.slot := slotPc3_sub p

theorem sound_add (c : Dev nD) (p : Pc) (os : List Op) : Sound X K c (.add p) os := by
  intro α Q k
  have e : (Op.run (F := F) c (.add p) >>= k) = .op (.load bM (slotRect p).toLoadRect (View.loadsAt_vmem (pos_S1h p))) fun a =>
      ldBuf p >>= fun b => .op (.load bM (slotRect p).toLoadRect (View.loadsAt_vmem (pos_S1h p))) fun _ =>
        .op (.store bM (slotRect p) (pay p a b) Finset.univ (View.stores_vmem_bits_univ (pos_S1h p) rfl) (.inl rfl)) k := by
    show Prog.op _ (fun a => (ldBuf p >>= fun b => _) >>= k) = _
    refine congrArg (Prog.op _) (funext fun a => ?_)
    rw [bind_assoc]
    rfl
  rw [e]
  unfold Res
  simp only [Op.pre, Op.post, bigSepL_cons', atP, slotP]
  rw [show debt c (.add p :: os) = debt c os from add_zero _, bigSepL_map]
  iintro ⟨-, -, ⟨⟨%f, %hf, Hs⟩, Hc⟩, HO⟩ Hk
  iapply (wp_load 𝒱₀ (c : Thread nD τ) none Set.univ (m := bM) (q := fullShare) (f := f) (slot_load p)) $$ [Hs]
  · iexact Hs
  iintro Hs
  iapply (ld_sound X c p) $$ [Hc]
  · iexact Hc
  iintro Hc
  iapply (wp_load 𝒱₀ (c : Thread nD τ) none Set.univ (m := bM) (q := fullShare) (f := f) (slot_load p)) $$ [Hs]
  · iexact Hs
  iintro Hs
  iapply (wp_store 𝒱₀ (c : Thread nD τ) none Set.univ (m := bM) (r := slotRect p) (Mk := Finset.univ) (f := f) (slot_store p)) $$ [Hs]
  · iexact Hs
  iintro Hs
  iapply Hk
  isplitr [HO]
  · isplitl [Hs]
    · iexists _
      isplitr
      · ipureintro
        exact (read_sum p f (landed X c p)).trans (congrArg (fun w : FVec F (Sh p.h) .f32 => addf w (landed X c p)) hf)
      iexact Hs
    iexact Hc
  iexact HO

theorem sound_out (c : Dev nD) (p : Pc) (os : List Op) : Sound X K c (.out p) os := by
  intro α Q k
  have e : (Op.run (F := F) c (.out p) >>= k) = .op (.enqueueDma (slotPc p) (.here (oPc c p)) (.dma (outS p.slot).sem) (View.wordExact_bits rfl)
    (View.wordExact_bits rfl) ⟨Or.inl rfl, trivial⟩) k := rfl
  rw [e]
  unfold Res
  simp only [Op.pre, Op.post, bigSepL_cons', bigSepL_nil, atP, oP]
  rw [show debt c (.out p :: os) = debt c os from add_zero _]
  iintro ⟨-, -, ⟨⟨%f, %hf, Hf⟩, ⟨%g, Hg⟩, Hs, -⟩, HO⟩ Hk
  ihave Hf := (slot_split c p f).1 $$ Hf
  icases Hf with ⟨Hf, Hrest⟩
  iapply (Transfers.wp_dmaLocal countersEmb 𝒱₀ (c : Thread nD τ) none () (oPc c p).view.dmaCredit rfl (slot_pos p) (Finset.Subset.refl _)) $$ [Hf Hg Hs]
  · isplitl [Hf]; · iexact Hf
    isplitl [Hg]; · iexact Hg
    iexact Hs
  iintro HF
  iapply Hk
  isplitr [HO]
  · isplitl
    · iexists f, g
      isplitr
      · ipureintro; exact hf
      isplitl [HF]; · iexact HF
      iexact Hrest
    iempintro
  iexact HO

theorem sound_waitOut (c : Dev nD) (p : Pc) (os : List Op) (ha : above 0 os = true) : Sound X K c (.waitOut p) os := by
  intro α Q k
  have e : (Op.run (F := F) c (.waitOut p) >>= k) = .op (.waitDma2 (outS p.slot).sem (slotPc p) (oPc c p) (View.wordExact_bits rfl)
    (View.wordExact_bits rfl)) k := rfl
  rw [e]
  unfold Res ow
  simp only [Op.pre, Op.post, bigSepL_cons', bigSepL_nil, atP, oP]
  rw [show debt c (.waitOut p :: os) = debt c os from add_zero _]
  iintro ⟨-, #Hlev, ⟨⟨%f, %g, %hf, HF, Hrest⟩, -⟩, ⟨%W, HO⟩⟩ Hk
  iapply (Transfers.wp_waitLocalO countersEmb 𝒱₀ (c : Thread nD τ) none () rfl) $$ [HF HO]
  · isplitl [HF]; · iexact HF
    isplitl [HO]; · iexact HO
    iapply (mayWait c (.dma (outS p.slot).sem) os (by rw [dec_outS]; exact ha)); iexact Hlev
  iintro ⟨⟨Ho, Hs⟩, Hz, HO⟩
  ihave Hs := (slot_split c p f).2 $$ [Hs Hrest]
  · isplitl [Hs]; · iexact Hs
    iexact Hrest
  iapply Hk
  isplitr [HO]
  · isplitl [Ho]
    · iexists ((oPc c p).view.write (Elt F) g ((slotPc p).view.read (Elt F) f) Finset.univ)
      isplitr
      · ipureintro; exact (View.read_write_univ _ _).trans hf
      iexact Ho
    isplitl [Hz]; · iexact Hz
    isplitl [Hs]
    · iexists f; iexact Hs
    iempintro
  iexists _; iexact HO

/-- Every step may be run from the items it takes, if it waits below what the remaining steps pay. -/
theorem op_sound (c : Dev nD) (o : Op) (os : List Op) (ha : above o.waitLv os = true) : Sound X K c o os := by
  cases o with
  | signal i => exact sound_signal X K c i os
  | waitBar => exact sound_waitBar X K c os ha
  | send t => exact sound_send X K c t os
  | waitRecv t => exact sound_waitRecv X K c t os ha
  | waitSend t => exact sound_waitSend X K c t os ha
  | load p => exact sound_load X K c p os
  | waitIn p => exact sound_waitIn X K c p os ha
  | add p => exact sound_add X K c p os
  | out p => exact sound_out X K c p os
  | waitOut p => exact sound_waitOut X K c p os ha

end

end Cert.KernelIdeal.K5

end
-- ==== Proof.KernelIdeal.Run.lean ====
/-
# The whole list of steps, run

What a device holds is a list of items. A step may run when the items it takes are in the list; running the list of
steps on the items a device starts with is then a computation on lists, which is carried out by evaluation (`script_runs`)
and is sound by the rules of the single steps (`runOps_sound`).
-/
module

public import proofs.«01_k».proof.Proof.KernelIdeal.Rules

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

/-! ## Items compared by numbers -/

def Tr.num : Tr → ℕ
  | .y p => 3 * p.val
  | .r q => 3 * q.val + 1
  | .l q => 3 * q.val + 2
def Pc.num : Pc → ℕ
  | .s i j => 4 * i.val + j.val
  | .b i => 4 * i.val + 2
def Bf.num : Bf → ℕ
  | .y => 0
  | .l => 1
  | .r => 2

/-- The kind of an item, and its place among the items of its kind. -/
def At.tag : At → ℕ
  | .btok _ => 0 | .bpos => 1 | .bcr => 2 | .bz => 3 | .tok _ => 4 | .dst _ => 5 | .rcr _ => 6 | .rpos _ => 7 | .rz _ => 8
  | .scr _ => 9 | .spos _ => 10 | .sz _ => 11 | .xs _ => 12 | .ch b _ s => 32 + 3 * b.num + s.val | .xl _ => 13 | .isem _ => 14 | .osem _ => 15
  | .free _ => 16 | .lflt _ => 17 | .lld _ => 18 | .lsum _ => 19 | .oreg _ => 20 | .oflt _ => 21 | .odone _ => 22
def At.val : At → ℕ
  | .btok i => i.val
  | .tok t | .dst t | .rcr t | .rpos t | .rz t | .scr t | .spos t | .sz t => t.num
  | .xs p => p.val
  | .ch _ k _ => k.val
  | .xl p | .lflt p | .lld p | .lsum p | .oreg p | .oflt p | .odone p => p.num
  | .isem k | .osem k | .free k => k.val
  | .bpos | .bcr | .bz => 0

theorem Tr.num_inj {a b : Tr} (h : a.num = b.num) : a = b := by
  cases a <;> cases b <;> simp only [Tr.num] at h <;> first | (exfalso; omega) | (congr 1; apply Fin.ext; omega)
theorem Pc.num_inj {a b : Pc} (h : a.num = b.num) : a = b := by
  rcases a with ⟨i, j⟩ | i <;> rcases b with ⟨i', j'⟩ | i' <;> simp only [Pc.num] at h
  · have := j.isLt; have := j'.isLt
    rw [show i = i' from Fin.ext (by omega), show j = j' from Fin.ext (by omega)]
  · exfalso; have := j.isLt; omega
  · exfalso; have := j'.isLt; omega
  · rw [show i = i' from Fin.ext (by omega)]

theorem At.inj {a b : At} (h : a.tag = b.tag) (h' : a.val = b.val) : a = b := by
  cases a <;> cases b <;> simp only [At.tag, At.val] at h h' <;>
    first
    | rfl
    | (exfalso; omega)
    | (rw [Tr.num_inj h'])
    | (rw [Pc.num_inj h'])
    | (rw [Fin.ext h'])
    | skip
  rename_i b k s b' k' s'
  have h1 := s.isLt
  have h2 := s'.isLt
  have hs : s = s' := Fin.ext (by omega)
  subst hs
  cases b <;> cases b' <;> simp only [Bf.num] at h <;> first | (exfalso; omega) | (rw [Fin.ext h'])

/-! ## Taking items out of a list -/

def remove (a : At) : List At → Option (List At)
  | [] => none
  | b :: l => if (Nat.beq a.tag b.tag && Nat.beq a.val b.val) = true then some l else (remove a l).map (b :: ·)
def removeAll : List At → List At → Option (List At)
  | [], l => some l
  | a :: t, l => (remove a l).bind (removeAll t)
def step (o : Op) (l : List At) : Option (List At) := (removeAll o.pre l).map (o.post ++ ·)
def runs : List Op → List At → Option (List At)
  | [], l => some l
  | o :: os, l => if above o.waitLv os = true then (step o l).bind (runs os) else none

theorem remove_perm {a : At} : ∀ {l l' : List At}, remove a l = some l' → l.Perm (a :: l')
  | [], _, h => by simp [remove] at h
  | b :: l, l', h => by
    rw [remove] at h
    split at h
    · rename_i hb
      rw [Bool.and_eq_true] at hb
      cases At.inj (Nat.eq_of_beq_eq_true hb.1) (Nat.eq_of_beq_eq_true hb.2)
      cases h; exact List.Perm.refl _
    · obtain ⟨l'', h1, rfl⟩ := Option.map_eq_some_iff.mp h
      exact ((remove_perm h1).cons b).trans (List.Perm.swap _ _ _)
theorem removeAll_perm : ∀ {t l l' : List At}, removeAll t l = some l' → l.Perm (t ++ l')
  | [], l, l', h => by cases h; exact List.Perm.refl _
  | a :: t, l, l', h => by
    obtain ⟨l'', h1, h2⟩ := Option.bind_eq_some_iff.mp h
    exact (remove_perm h1).trans ((removeAll_perm h2).cons a)

variable (X : Args F) (K : Dev nD × Cl → ℕ)

theorem bigSepL_of_perm {I : Type} (Φ : I → sProp 𝕄) {l l' : List I} (h : l.Perm l') : bigSepL l Φ ⊢ bigSepL l' Φ := by
  induction h with
  | nil => exact Entails.refl _
  | cons x _ ih => rw [bigSepL_cons, bigSepL_cons]; exact sep_mono_right ih
  | swap x y l =>
    rw [bigSepL_cons', bigSepL_cons', bigSepL_cons', bigSepL_cons']
    iintro ⟨HP, HQ, HR⟩
    isplitl [HQ]; · iexact HQ
    isplitl [HP]; · iexact HP
    iexact HR
  | trans _ _ ih1 ih2 => exact ih1.trans ih2

theorem Res_perm (c : Dev nD) {l l' : List At} (h : l.Perm l') : Res X c l ⊢ Res X c l' := bigSepL_of_perm _ h
theorem Res_append (c : Dev nD) (l l' : List At) : Res X c (l ++ l') = iprop(Res X c l ∗ Res X c l') := bigSepL_append _ _ _

/-- A list of steps runs from the items it can be run from on lists, to the items it ends with there. -/
theorem runOps_sound (c : Dev nD) : ∀ (os : List Op) (l l' : List At), runs os l = some l' → ∀ Q : PUnit → sProp 𝕄,
    iprop(records X K ∗ levAts L lv ∗ Res X c l ∗ ow c (debt c os))
      ⊢ iprop(((Res X c l' ∗ ow c 0) -∗ Q ⟨⟩)
          -∗ wp frame (wpE (defs₀ (F := F)) 𝒱₀ (c : Thread nD τ) none) Set.univ (runOps c os) Q)
  | [], l, l', h, Q => by
    cases h
    show _ ⊢ iprop(_ -∗ wp _ _ _ (pure ⟨⟩) Q)
    rw [wp_pure]
    iintro ⟨-, -, Hl, HO⟩ Hk
    imodintro
    iapply Hk
    isplitl [Hl]; · iexact Hl
    iexact HO
  | o :: os, l, l', h, Q => by
    rw [runs] at h
    split at h
    · rename_i ha
      obtain ⟨l₁, h1, h2⟩ := Option.bind_eq_some_iff.mp h
      obtain ⟨l₂, h3, rfl⟩ := Option.map_eq_some_iff.mp h1
      have ih := runOps_sound c os _ l' h2 Q
      rw [Res_append] at ih
      show _ ⊢ iprop(_ -∗ wp _ _ _ (o.run c >>= fun _ => runOps c os) Q)
      iintro ⟨#HR, #Hlev, Hl, HO⟩ Hk
      ihave Hl := ((Res_perm X c (removeAll_perm h3)).trans (Entails.of_eq (Res_append X c _ _))) $$ Hl
      icases Hl with ⟨Hp, Hl⟩
      iapply (op_sound X K c o os ha) $$ [Hp HO]
      · isplitr; · iexact HR
        isplitr; · iexact Hlev
        isplitl [Hp]; · iexact Hp
        iexact HO
      iintro ⟨Hp, HO⟩
      iapply ih $$ [Hp Hl HO] [Hk]
      · isplitr; · iexact HR
        isplitr; · iexact Hlev
        isplitl [Hp Hl]
        · isplitl [Hp]; · iexact Hp
          iexact Hl
        iexact HO
      iexact Hk
    · cases h

/-! ## The items of the body, before and after -/

def Pc.all : List Pc := [.s 0 0, .s 0 1, .s 1 0, .s 1 1, .s 2 0, .s 2 1, .s 3 0, .s 3 1, .b 0, .b 1, .b 2, .b 3]
theorem Pc.mem_all (p : Pc) : p ∈ Pc.all := by
  rcases p with ⟨i, j⟩ | i
  · fin_cases i <;> fin_cases j <;> decide
  · fin_cases i <;> decide

/-- What the launch deals a device beyond its memory, the credits, and the memory. -/
def itGhost : List At := [.btok 0, .btok 1, .btok 2] ++ .bpos :: (Tr.all.map .tok ++ Tr.all.map .rpos ++ Tr.all.map .spos)
def itCred : List At := .bcr :: Tr.all.map .rcr
def itSem : List At := (List.finRange 4).map .isem ++ (List.finRange 4).map .osem
def itX : List At := (List.finRange 22).map .xs ++ Pc.all.map .xl
def itFree : List At := (List.finRange 4).map .free
def itOut : List At := Pc.all.map .oreg
def itZero : List At := .bz :: (Tr.all.map .rz ++ Tr.all.map .sz)
def itCh (b : Bf) : List At :=
  (List.finRange b.n).map (fun k => .ch b k 0) ++ (List.finRange b.n).map (fun k => .ch b k 1) ++ (List.finRange b.n).map (fun k => .ch b k 2)
def itDone : List At := Pc.all.map .odone

def itemsBefore : List At := itGhost ++ itCred ++ itSem ++ itX ++ itFree ++ itOut
def itemsAfter : List At := itZero ++ itSem ++ itX ++ itFree ++ itDone ++ (itCh .y ++ itCh .l ++ itCh .r)

def runsTo (os : List Op) (l l' : List At) : Bool :=
  match runs os l with
  | some l'' => match removeAll l' l'' with
    | some [] => true
    | _ => false
  | none => false

theorem runsTo_sound {os : List Op} {l l' : List At} (h : runsTo os l l' = true) : ∃ l'', runs os l = some l'' ∧ l''.Perm l' := by
  unfold runsTo at h
  split at h
  · rename_i l'' h1
    split at h
    · rename_i h2
      exact ⟨l'', h1, by simpa using removeAll_perm h2⟩
    · cases h
  · cases h

set_option maxRecDepth 100000 in
/-- On lists the body's steps run from the items before to the items after. -/
theorem script_runs : runsTo script itemsBefore itemsAfter = true := by decide +kernel

/-- The body, from the items before to the items after. -/
theorem body_sound (c : Dev nD) (Q : PUnit → sProp 𝕄) :
    iprop(records X K ∗ levAts L lv ∗ Res X c itemsBefore ∗ ow c (debt c script))
      ⊢ iprop(((Res X c itemsAfter ∗ ow c 0) -∗ Q ⟨⟩)
          -∗ wp frame (wpE (defs₀ (F := F)) 𝒱₀ (c : Thread nD τ) none) Set.univ bodyK Q) := by
  obtain ⟨l, h1, h2⟩ := runsTo_sound script_runs
  rw [bodyK_eq]
  have h := runOps_sound X K c script itemsBefore l h1 Q
  generalize script = os at h ⊢
  have e : (Prog.lift .deviceId >>= fun c => runOps (F := F) c os) = .op .deviceId fun c => runOps c os := rfl
  rw [e, wp_deviceId]
  iintro H Hk
  iapply h $$ H
  iintro ⟨Hl, HO⟩
  iapply Hk
  isplitl [Hl]
  · iapply (Res_perm X c h2); iexact Hl
  iexact HO

end Cert.KernelIdeal.K5

end
-- ==== Proof.KernelIdeal.Memory.lean ====
/-
# The buffers, cut into the pieces the body works on

At the launch each buffer comes whole; the body wants it in the pieces its steps move. This module cuts the buffers up
for the body, and puts together again what the body leaves.
-/
module

public import proofs.«01_k».proof.Proof.KernelIdeal.Run

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (X : Args F)

/-! ## Lists and finite sets -/

theorem Pc.all_nodup : Pc.all.Nodup := by decide
instance : Fintype Pc := ⟨Pc.all.toFinset, fun t => List.mem_toFinset.mpr t.mem_all⟩

theorem sep_all_tr (Φ : Tr → sProp 𝕄) : bigSep Finset.univ Φ = bigSepL Tr.all Φ :=
  bigSep_univ_eq_bigSepL Tr.all rfl Tr.all_nodup Φ
theorem sep_all_pc (Φ : Pc → sProp 𝕄) : bigSep Finset.univ Φ = bigSepL Pc.all Φ :=
  bigSep_univ_eq_bigSepL Pc.all rfl Pc.all_nodup Φ
theorem sep_all_fin {n : ℕ} (Φ : Fin n → sProp 𝕄) : bigSep Finset.univ Φ = bigSepL (List.finRange n) Φ :=
  bigSep_univ_eq_bigSepL (List.finRange n) (by ext i; simp) (List.nodup_finRange n) Φ

/-- Items named by the remote copies, by the pieces, or by numbers. -/
theorem Res_tr (c : Dev nD) (g : Tr → At) : Res X c (Tr.all.map g) = bigSep Finset.univ fun t => atP X c (g t) := by
  rw [sep_all_tr]; exact bigSepL_map _ _ _
theorem Res_pc (c : Dev nD) (g : Pc → At) : Res X c (Pc.all.map g) = bigSep Finset.univ fun t => atP X c (g t) := by
  rw [sep_all_pc]; exact bigSepL_map _ _ _
theorem Res_fin {n : ℕ} (c : Dev nD) (g : Fin n → At) : Res X c ((List.finRange n).map g) = bigSep Finset.univ fun t => atP X c (g t) := by
  rw [sep_all_fin]; exact bigSepL_map _ _ _

/-! ## A buffer cut into a family of parts -/

/-- A buffer whose parts are a family of sets is that family of parts. -/
theorem whole_cut {T : Type} [Fintype T] {ℓ : Loc nD τ sig} (S : T → Finset (Idx ℓ)) (hd : ∀ t t', t ≠ t' → Disjoint (S t) (S t'))
    (hc : Finset.univ.biUnion S = Finset.univ) (q : PosShare TreeShare) (f : Buf (Elt F) ℓ) :
    (ℓ ↦[Finset.univ]{q} f : sProp 𝕄) = bigSep Finset.univ fun t => ℓ ↦[S t]{q} f := by
  rw [← hc]; exact pointsTo_biUnion _ _ fun t _ t' _ h => hd t t' h

/-- A part whose contents are forgotten. -/
theorem any_of {ℓ : Loc nD τ sig} (I : Finset (Idx ℓ)) (q : PosShare TreeShare) (f : Buf (Elt F) ℓ) :
    (ℓ ↦[I]{q} f : sProp 𝕄) ⊢ iprop(∃ f, ℓ ↦[I]{q} f) := by
  iintro H; iexists f; iexact H

/-- The same with the contents forgotten. -/
theorem whole_cut_any {T : Type} [Fintype T] {ℓ : Loc nD τ sig} (S : T → Finset (Idx ℓ)) (hd : ∀ t t', t ≠ t' → Disjoint (S t) (S t'))
    (hc : Finset.univ.biUnion S = Finset.univ) (q : PosShare TreeShare) (f : Buf (Elt F) ℓ) :
    (ℓ ↦[Finset.univ]{q} f : sProp 𝕄) ⊢ bigSep Finset.univ fun t => iprop(∃ f, ℓ ↦[S t]{q} f) := by
  rw [whole_cut S hd hc]
  exact bigSep_mono fun t _ => any_of (S t) q f

/-- Parts of which each has a property that only its own elements decide, put together: one contents having them all. -/
theorem whole_join {T : Type} [Fintype T] [DecidableEq T] {ℓ : Loc nD τ sig} (S : T → Finset (Idx ℓ)) (hd : ∀ t t', t ≠ t' → Disjoint (S t) (S t'))
    (hc : Finset.univ.biUnion S = Finset.univ) (q : PosShare TreeShare) (P : T → Buf (Elt F) ℓ → Prop)
    (hP : ∀ t f g, (∀ i ∈ S t, g i = f i) → P t f → P t g) (f₀ : Buf (Elt F) ℓ) :
    (bigSep Finset.univ fun t => iprop(∃ f, ⌜P t f⌝ ∗ ℓ ↦[S t]{q} f))
      ⊢ (iprop(∃ g, ⌜∀ t, P t g⌝ ∗ ℓ ↦[Finset.univ]{q} g) : sProp 𝕄) := by
  haveI : Nonempty (Buf (Elt F) ℓ) := ⟨f₀⟩
  iintro H
  ihave H := (BI.bigSep_exists_pi Finset.univ (fun (t : T) (f : Buf (Elt F) ℓ) => (iprop(⌜P t f⌝ ∗ ℓ ↦[S t]{q} f) : sProp 𝕄))) $$ H
  icases H with ⟨%fs, H⟩
  ihave H := (BI.bigSep_pure_sep Finset.univ (fun t => P t (fs t)) (fun t => (ℓ ↦[S t]{q} fs t : sProp 𝕄))) $$ H
  icases H with ⟨%hp, H⟩
  ihave H := (pointsTo_biUnion_join Finset.univ S fs f₀ fun t _ t' _ h => hd t t' h) $$ H
  icases H with ⟨%g, %hg, H⟩
  rw [hc]
  iexists g
  isplitr
  · ipureintro
    exact fun t => hP t (fs t) g (hg t (Finset.mem_univ t)) (hp t (Finset.mem_univ t))
  iexact H

/-! ## The landing buffers -/

/-- A landing buffer, whatever it holds, is its chunks. -/
theorem raw_cut (c : Dev nD) (b : Bf) (f : Buf (Elt F) ((c : Thread nD τ).loc b.ref)) :
    ((c : Thread nD τ).loc b.ref ↦{fullShare} f : sProp 𝕄) ⊢ bigSep Finset.univ fun k : Fin b.n => rawP (F := F) c b k := by
  refine (whole_cut_any (chSet c b) (chSet_disj c b) (chSet_cover c b) fullShare f).trans (bigSep_mono fun k _ => ?_)
  rw [rawP_eq]; exact Entails.refl _

/-- The chunks of a landing buffer in their three parts are the buffer. -/
theorem ch_join (c : Dev nD) (b : Bf) : Res X c (itCh b) ⊢ ((c : Thread nD τ).loc b.ref ↦{fullShare} BB X c b : sProp 𝕄) := by
  unfold itCh
  rw [Res_append, Res_append, Res_fin, Res_fin, Res_fin]
  simp only [atP, chP_eq]
  rw [← whole_cut (chSet c b) (chSet_disj c b) (chSet_cover c b), ← whole_cut (chSet c b) (chSet_disj c b) (chSet_cover c b),
    ← whole_cut (chSet c b) (chSet_disj c b) (chSet_cover c b)]
  iintro ⟨⟨H0, H1⟩, H2⟩
  iapply (Ring.pointsTo_thirds fullShare (BB X c b)).2
  isplitl [H0]; · iexact H0
  isplitl [H1]; · iexact H1
  iexact H2

/-! ## The four-slot buffer -/

theorem slotSet_disj (k k' : Fin 4) (h : k ≠ k') : Disjoint (slotSet k) (slotSet k') := by
  rw [Finset.disjoint_left]
  intro i h1 h2
  exact h (Fin.ext ((Finset.mem_filter.mp h1).2.symm.trans (Finset.mem_filter.mp h2).2))
theorem slotSet_cover : Finset.univ.biUnion slotSet = Finset.univ := by
  refine Finset.eq_univ_iff_forall.mpr fun i => Finset.mem_biUnion.mpr ⟨⟨(i 0).val, (i 0).isLt⟩, Finset.mem_univ _, ?_⟩
  exact Finset.mem_filter.mpr ⟨Finset.mem_univ _, rfl⟩

theorem free_cut (c : Dev nD) (f : Buf (Elt F) ((c : Thread nD τ).loc cc0_scratch3)) :
    ((c : Thread nD τ).loc cc0_scratch3 ↦{fullShare} f : sProp 𝕄) ⊢ Res X c itFree := by
  unfold itFree
  rw [Res_fin]
  exact whole_cut_any (ℓ := (c : Thread nD τ).loc cc0_scratch3) slotSet slotSet_disj slotSet_cover fullShare f

theorem slot_any (c : Dev nD) (k : Fin 4) : atP X c (.free k)
    ⊢ (iprop(∃ f : Buf (Elt F) ((c : Thread nD τ).loc cc0_scratch3), ⌜True⌝ ∗ (c : Thread nD τ).loc cc0_scratch3 ↦[slotSet k]{fullShare} f) : sProp 𝕄) := by
  simp only [atP, slotP]
  iintro ⟨%f, H⟩
  iexists f; isplitr; · ipureintro; trivial
  iexact H

theorem free_join (c : Dev nD) (f₀ : Buf (Elt F) ((c : Thread nD τ).loc cc0_scratch3)) :
    Res X c itFree ⊢ (iprop(∃ f : Buf (Elt F) ((c : Thread nD τ).loc cc0_scratch3), (c : Thread nD τ).loc cc0_scratch3 ↦{fullShare} f) : sProp 𝕄) := by
  unfold itFree
  rw [Res_fin]
  refine (bigSep_mono fun k _ => slot_any X c k).trans ?_
  show (bigSep Finset.univ fun k : Fin 4 => (iprop(∃ f : Buf (Elt F) ((c : Thread nD τ).loc cc0_scratch3), ⌜True⌝
    ∗ (c : Thread nD τ).loc cc0_scratch3 ↦[slotSet k]{fullShare} f) : sProp 𝕄)) ⊢ _
  iintro H
  ihave H := (whole_join (ℓ := (c : Thread nD τ).loc cc0_scratch3) slotSet slotSet_disj slotSet_cover fullShare (fun _ _ => True) (fun _ _ _ _ _ => trivial) f₀) $$ H
  icases H with ⟨%g, -, H⟩
  iexists g; iexact H

/-! ## The argument and the result -/

/-- The elements of a piece of the result, of a piece of the argument, and of a chunk exchanged with the partner. -/
def oSet (c : Dev nD) (p : Pc) : Finset S8192x1024.Idx := (oPc c p).view.set
def xSet (c : Dev nD) (p : Pc) : Finset S8192x1024.Idx := (xPc c p).view.set
def sSet (c : Dev nD) (p : Fin 22) : Finset S8192x1024.Idx := (xChunk c p).view.set

theorem xSet_eq (c : Dev nD) (p : Pc) : xSet c p = oSet c p :=
  Finset.ext fun i => (mem_xPc c p i).trans (mem_oPc c p i).symm

theorem mem_oSet (c : Dev nD) (p : Pc) (i : S8192x1024.Idx) : i ∈ oSet c p ↔ p.row c ≤ (i 0).val ∧ (i 0).val < p.row c + p.h :=
  mem_oPc c p i

/-- The pieces of the result cover each row once. -/
theorem pc_disj (c : Dev nD) (p p' : Pc) (h : p ≠ p') : Disjoint (oSet c p) (oSet c p') := by
  rw [Finset.disjoint_left]
  intro i h1 h2
  have h1 := (mem_oPc c p i).mp h1
  have h2 := (mem_oPc c p' i).mp h2
  have hr := ring_lt c
  apply h
  rcases p with ⟨k, j⟩ | k <;> rcases p' with ⟨k', j'⟩ | k' <;>
    · simp only [Pc.row, Pc.h, Pc.i, Pc.o] at h1 h2
      have := k.isLt; have := k'.isLt
      try have := j.isLt
      try have := j'.isLt
      first
      | (exfalso; omega)
      | (have e1 : k = k' := Fin.ext (by omega)
         have e2 : j = j' := Fin.ext (by omega)
         rw [e1, e2])
      | (have e1 : k = k' := Fin.ext (by omega)
         rw [e1])

theorem pc_cover (c : Dev nD) : Finset.univ.biUnion (oSet c) = Finset.univ := by
  refine Finset.eq_univ_iff_forall.mpr fun i => Finset.mem_biUnion.mpr ?_
  have hi : (i 0).val < 8192 := (i 0).isLt
  have hr := ring_lt c
  let k : Fin 4 := ⟨((i 0).val / 2048 + 4 - ring c) % 4, Nat.mod_lt _ (by decide)⟩
  have hk : (ring c + k.val) % 4 = (i 0).val / 2048 := by show (ring c + ((i 0).val / 2048 + 4 - ring c) % 4) % 4 = _; omega
  rcases (by omega : (i 0).val % 2048 < 768 ∨ 768 ≤ (i 0).val % 2048) with h | h
  · refine ⟨.b k, Finset.mem_univ _, (mem_oSet c _ i).mpr ?_⟩
    simp only [Pc.row, Pc.h, Pc.i, Pc.o, hk]; omega
  · refine ⟨.s k ⟨((i 0).val % 2048 - 768) / 640, by omega⟩, Finset.mem_univ _, (mem_oSet c _ i).mpr ?_⟩
    simp only [Pc.row, Pc.h, Pc.i, Pc.o, hk]; omega

/-- The chunks exchanged with the partner are disjoint. -/
theorem xChunk_disj (c : Dev nD) (p p' : Fin 22) (h : p ≠ p') : Disjoint (sSet c p) (sSet c p') := by
  rw [Finset.disjoint_left]
  intro i h1 h2
  have h1 := (mem_xChunk c p i).mp h1
  have h2 := (mem_xChunk c p' i).mp h2
  have hr := ring_lt c
  have := p.isLt; have := p'.isLt
  apply h
  refine Fin.ext ?_
  simp only [xrow, yo] at h1 h2
  split_ifs at h1 h2 <;> omega

/-- The argument, cut for the exchange copies and for the device's own loads. -/
theorem x_cut (c : Dev nD) : ((c : Thread nD τ).loc main_arg0 ↦{fullShare} X c : sProp 𝕄) ⊢ Res X c itX := by
  unfold itX
  rw [Res_append, Res_fin, Res_pc]
  iintro H
  ihave H := (pointsTo_share (PosShare.mem_left_op_right fullShare)).1 $$ H
  icases H with ⟨Hl, Hr⟩
  isplitl [Hl]
  · ihave Hl := (pointsTo_split_subset (Finset.subset_univ (Finset.univ.biUnion (sSet c)))).1 $$ Hl
    icases Hl with ⟨Hl, -⟩
    iapply (Entails.of_eq (pointsTo_biUnion (ℓ := (c : Thread nD τ).loc main_arg0) (q := fullShare.left) (f := X c) Finset.univ
      (sSet c) fun t _ t' _ h => xChunk_disj c t t' h))
    iexact Hl
  · iapply (Entails.of_eq (whole_cut (ℓ := (c : Thread nD τ).loc main_arg0) (xSet c)
      (fun p p' h => by simp only [xSet_eq]; exact pc_disj c p p' h)
      (by rw [show xSet c = oSet c from funext (xSet_eq c)]; exact pc_cover c) fullShare.right (X c)))
    iexact Hr

/-- The pieces loaded are the argument again, at the part kept for the loads. -/
theorem x_join (c : Dev nD) : Res X c itX ⊢ ((c : Thread nD τ).loc main_arg0 ↦{fullShare.right} X c : sProp 𝕄) := by
  unfold itX
  rw [Res_append, Res_pc]
  refine sep_elim_right.trans ?_
  exact Entails.of_eq (whole_cut (ℓ := (c : Thread nD τ).loc main_arg0) (xSet c)
      (fun p p' h => by simp only [xSet_eq]; exact pc_disj c p p' h)
      (by rw [show xSet c = oSet c from funext (xSet_eq c)]; exact pc_cover c) fullShare.right (X c)).symm

/-- A view reads only its own elements. -/
theorem read_of_eq {sp : Space} {s : Shape} {e : EltTy} {κ : Kind} (v : View sig κ sp s e) (f g : v.ty.Contents (Elt F))
    (h : ∀ i ∈ v.set, g i = f i) : v.read (Elt F) g = v.read (Elt F) f := by
  funext x
  rw [View.read_apply, View.read_apply, h _ (Finset.mem_map_of_mem _ (Finset.mem_univ x))]

/-- Every piece of the result holds its sum. -/
def OutOk (c : Dev nD) (g : Buf (Elt F) ((c : Thread nD τ).loc main_v1)) : Prop := ∀ p, (oPc c p).view.read (Elt F) g = sumPc X c p

theorem out_cut (c : Dev nD) (f : Buf (Elt F) ((c : Thread nD τ).loc main_v1)) :
    ((c : Thread nD τ).loc main_v1 ↦{fullShare} f : sProp 𝕄) ⊢ Res X c itOut := by
  unfold itOut
  rw [Res_pc]
  exact whole_cut_any (ℓ := (c : Thread nD τ).loc main_v1) (oSet c) (pc_disj c) (pc_cover c) fullShare f

theorem out_join (c : Dev nD) (f₀ : Buf (Elt F) ((c : Thread nD τ).loc main_v1)) :
    Res X c itDone ⊢ (iprop(∃ g : Buf (Elt F) ((c : Thread nD τ).loc main_v1), ⌜OutOk X c g⌝ ∗ (c : Thread nD τ).loc main_v1 ↦{fullShare} g) : sProp 𝕄) := by
  unfold itDone OutOk
  rw [Res_pc]
  exact whole_join (ℓ := (c : Thread nD τ).loc main_v1) (oSet c) (pc_disj c) (pc_cover c) fullShare
    (fun p g => (oPc c p).view.read (Elt F) g = sumPc X c p)
    (fun p f g h hp => by
      exact (read_of_eq (oPc c p).view f g h).trans hp) f₀

end Cert.KernelIdeal.K5

end
-- ==== Proof.KernelIdeal.Credits.lean ====
/-
# What is owed and what is credited at the launch

A device owes one unit for each of its three entry signals and the units of each of its remote copies. Summed over the
devices, the barrier semaphore of a device is owed three units and the receive semaphore of each copy one copy's units:
that is the credit each device starts with.
-/
module

public import proofs.«01_k».proof.Proof.KernelIdeal.Memory

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

deriving instance DecidableEq for Op

theorem bTgt_bOrg : ∀ (c : Dev nD) (d : Fin 3), bTgt (bOrg c d) d = c := by decide +kernel

/-! ## The steps that pay, counted -/

theorem count_send : ∀ t ∈ Tr.all, script.count (.send t) = 1 := by decide +kernel
theorem count_signal : ∀ i : Fin 3, script.count (.signal i) = 1 := by decide +kernel

theorem cell_inj {a b : Dev nD} {x y : Cl} (h : cell a x = cell b y) : a = b ∧ x = y :=
  ⟨congrArg (fun g : GSem nD τ sig => g.1.1) h, Cl.sem_inj (congrArg Prod.snd h)⟩

theorem tally_cell (a b : Dev nD) (x y : Cl) (n : ℕ) :
    (tallyAt (cell a x) () n : CellTallies nD τ sig Unit) (cell b y) () = if a = b ∧ x = y then n else 0 := by
  rw [tallyAt_apply]
  by_cases h : a = b ∧ x = y
  · obtain ⟨rfl, rfl⟩ := h; simp
  · rw [if_neg (fun h' => h ?_), if_neg h]
    obtain ⟨h1, h2⟩ := cell_inj h'.1; exact ⟨h1.symm, h2.symm⟩

theorem tally_cell_ne (a b : Dev nD) {x y : Cl} (h : x ≠ y) (n : ℕ) :
    (tallyAt (cell a x) () n : CellTallies nD τ sig Unit) (cell b y) () = 0 := by
  rw [tally_cell, if_neg fun h' => h h'.2]

theorem Cl.sem_injective : Function.Injective Cl.sem := fun _ _ h => Cl.sem_inj h

/-- What a list of steps owes a receive semaphore. -/
theorem debt_r (c c' : Dev nD) (t : Tr) (os : List Op) :
    debt c os (cell c' (.r t)) () = if t.tgt c = c' then N * os.count (.send t) else 0 := by
  induction os with
  | nil => simp [debt]
  | cons o os ih =>
    have e : debt c (o :: os) (cell c' (.r t)) () = debt c os (cell c' (.r t)) () + o.pays c (cell c' (.r t)) () := rfl
    rw [e, ih]
    cases o with
    | signal i =>
      rw [show (Op.signal i).pays c = tallyAt (cell (bTgt c (role c i)) .bar) () 1 from rfl, tally_cell_ne _ _ (by simp),
        List.count_cons_of_ne (by simp), Nat.add_zero]
    | send t' =>
      rw [show (Op.send t').pays c = tallyAt (cell (t'.tgt c) (.r t')) () N from rfl]
      by_cases h : t' = t
      · subst h
        rw [tally_cell, List.count_cons_self]
        by_cases h1 : t'.tgt c = c'
        · rw [if_pos h1, if_pos ⟨h1, rfl⟩, if_pos h1, Nat.mul_succ]
        · rw [if_neg h1, if_neg (fun h => h1 h.1), if_neg h1]
      · rw [tally_cell_ne _ _ (fun h' => h (Cl.r.inj h')), List.count_cons_of_ne (by simpa using h), Nat.add_zero]
    | _ =>
      rw [List.count_cons_of_ne (by simp)]; exact Nat.add_zero _

/-- What a list of steps owes a barrier semaphore. -/
theorem debt_bar (c c' : Dev nD) (os : List Op) :
    debt c os (cell c' .bar) () = ∑ i : Fin 3, if bTgt c (role c i) = c' then os.count (.signal i) else 0 := by
  induction os with
  | nil => simp [debt]
  | cons o os ih =>
    have e : debt c (o :: os) (cell c' .bar) () = debt c os (cell c' .bar) () + o.pays c (cell c' .bar) () := rfl
    rw [e, ih]
    cases o with
    | signal j =>
      rw [show (Op.signal j).pays c = tallyAt (cell (bTgt c (role c j)) .bar) () 1 from rfl, tally_cell]
      rw [← Finset.sum_erase_add _ _ (Finset.mem_univ j), ← Finset.sum_erase_add (a := j) Finset.univ (fun i => if bTgt c (role c i) = c' then _ else 0) (Finset.mem_univ j),
        List.count_cons_self, Nat.add_assoc]
      congr 1
      · refine Finset.sum_congr rfl fun i hi => ?_
        rw [List.count_cons_of_ne (by simpa using (Finset.ne_of_mem_erase hi).symm)]
      · by_cases h1 : bTgt c (role c j) = c'
        · rw [if_pos h1, if_pos ⟨h1, rfl⟩, if_pos h1]
        · rw [if_neg h1, if_neg (fun h => h1 h.1), if_neg h1]
    | send t' =>
      rw [show (Op.send t').pays c = tallyAt (cell (t'.tgt c) (.r t')) () N from rfl, tally_cell_ne _ _ (by simp), Nat.add_zero]
      exact Finset.sum_congr rfl fun i _ => by rw [List.count_cons_of_ne (by simp)]
    | _ =>
      refine (Nat.add_zero _).trans (Finset.sum_congr rfl fun i _ => ?_)
      rw [List.count_cons_of_ne (by simp)]

theorem bar_total : ∀ c' : Dev nD, (∑ c : Dev nD, ∑ i : Fin 3, if bTgt c (role c i) = c' then 1 else 0) = 3 := by decide +kernel

/-- What a device owes when it starts. -/
def O₀ (c : Dev nD) : CellTallies nD τ sig Unit := debt c script

theorem launch_bar (c : Dev nD) :
    tallyOn (cell c .bar) (launchCredit (Pipeline.owing O₀) 0 (cell c .bar)) = (tallyAt (cell c .bar) () 3 : CellTallies nD τ sig Unit) := by
  unfold tallyAt
  refine congrArg _ (Finsupp.ext fun u => ?_)
  cases u
  rw [Pipeline.launchCredit_owing, Finsupp.single_eq_same, ← bar_total c]
  refine Finset.sum_congr rfl fun d _ => ?_
  unfold O₀
  rw [debt_bar]
  exact Finset.sum_congr rfl fun i _ => by rw [count_signal]

theorem launch_r (c : Dev nD) (t : Tr) :
    tallyOn (cell c (.r t)) (launchCredit (Pipeline.owing O₀) 0 (cell c (.r t))) = (tallyAt (cell c (.r t)) () N : CellTallies nD τ sig Unit) := by
  unfold tallyAt
  refine congrArg _ (Finsupp.ext fun u => ?_)
  cases u
  rw [Pipeline.launchCredit_owing, Finsupp.single_eq_same, Finset.sum_eq_single (t.org c)]
  · unfold O₀
    rw [debt_r, if_pos (Tr.tgt_org c t), count_send t t.mem_all, Nat.mul_one]
  · intro d _ h
    unfold O₀
    rw [debt_r, if_neg]
    rintro rfl
    exact h (Tr.org_tgt d t).symm
  · intro h; exact absurd (Finset.mem_univ _) h

variable (X : Args F)

/-- A family over all the protocol's semaphores, sorted by what they are for. -/
theorem sep_all_cl (Φ : Cl → sProp 𝕄) :
    bigSep Finset.univ Φ = iprop(Φ .bar ∗ (bigSep Finset.univ fun t => Φ (.s t)) ∗ bigSep Finset.univ fun t => Φ (.r t)) := by
  rw [bigSep_univ_eq_bigSepL Cl.all rfl Cl.all_nodup Φ, sep_all_tr, sep_all_tr, ← bigSepL_map Cl.s Tr.all Φ, ← bigSepL_map Cl.r Tr.all Φ,
    ← bigSepL_append]
  rfl

/-- Each device's credit at the launch. -/
theorem creds (c : Dev nD) : (Pipeline.launchCred O₀ c : sProp 𝕄) ⊢ Res X c itCred := by
  unfold Pipeline.launchCred
  refine (BI.bigSep_subset (Finset.subset_univ (Finset.univ.map ⟨Cl.sem, Cl.sem_injective⟩))).trans ?_
  rw [bigSep_map, sep_all_cl]
  have e1 := launch_bar c
  have e2 := launch_r c
  have e : Res X c itCred = iprop(cred (tallyAt (cell c .bar) () 3) ∗ bigSep Finset.univ fun t : Tr => cred (tallyAt (cell c (.r t)) () N)) := by
    rw [sep_all_tr, ← bigSepL_map Cl.r Tr.all fun cl => (cred (tallyAt (cell c cl) () N) : sProp 𝕄)]
    unfold itCred Res
    rw [bigSepL_cons, bigSepL_map, bigSepL_map]
    rfl
  rw [e]
  refine sep_mono (Entails.of_eq (congrArg cred e1)) (sep_elim_right.trans (bigSep_mono fun t _ => Entails.of_eq (congrArg cred (e2 t))))

end Cert.KernelIdeal.K5

end
-- ==== Proof.KernelIdeal.Deal.lean ====
/-
# What the launch deals the devices

Every protocol semaphore gets its invariant; every device gets its positions at its own semaphores and the tokens of
what it pays: its own send semaphores', the receive semaphores' of the devices it sends to, and one of the barrier
semaphores' of its partner and of its two neighbours.
-/
module

public import proofs.«01_k».proof.Proof.KernelIdeal.Credits

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

variable (X : Args F)

/-! ## The launch element -/

theorem cell_injective : Function.Injective fun ck : Dev nD × Cl => cell ck.1 ck.2 := fun a b h =>
  Prod.ext (cell_inj h).1 (cell_inj h).2

/-- The protocol's cells: every device's protocol semaphores. -/
def protoCells : Finset (GSem nD τ sig) := Finset.univ.map ⟨fun ck : Dev nD × Cl => cell ck.1 ck.2, cell_injective⟩

/-- A device's own semaphores' tokens: three of its barrier semaphore, one of each send and of each receive semaphore. -/
abbrev Tk : Type := Fin 3 ⊕ (Tr ⊕ Tr)
def Tk.cl : Tk → Cl
  | .inl _ => .bar
  | .inr (.inl t) => .s t
  | .inr (.inr t) => .r t
def Tk.d : Tk → Fin 3
  | .inl d => d
  | .inr _ => 0
def tokOf (x : Dev nD × Tk) : GSem nD τ sig × ℕ × Fin 3 := (cell x.1 x.2.cl, 0, x.2.d)
theorem tokOf_injective : Function.Injective tokOf := by
  rintro ⟨c, x⟩ ⟨c', y⟩ h
  obtain ⟨h1, h2⟩ := cell_inj (congrArg Prod.fst h)
  have h3 : x.d = y.d := congrArg (fun z : GSem nD τ sig × ℕ × Fin 3 => z.2.2) h
  dsimp only at h1 h2
  subst h1
  rcases x with d | t | t <;> rcases y with d' | t' | t' <;> simp only [Tk.cl, Tk.d] at h2 h3 <;> first | cases h2 | skip
  · subst h3; rfl
  · rfl
  · rfl
def protoToks : Finset (GSem nD τ sig × ℕ × Fin 3) := Finset.univ.map ⟨tokOf, tokOf_injective⟩

def u₀ : UU := (initOf (Pipeline.cells cfgs cellOf_inj) (Pipeline.launchToks cfgs cellOf_inj), (initOf protoCells protoToks, 1))

theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own semaphores. -/
def toks (c : Dev nD) : sProp 𝕄 :=
  iprop((bigSep Finset.univ fun d : Fin 3 => dutyTok ER (cell c .bar) 0 d) ∗ (bigSep Finset.univ fun t : Tr => dutyTok ER (cell c (.s t)) 0 0)
    ∗ bigSep Finset.univ fun t : Tr => dutyTok ER (cell c (.r t)) 0 0)

/-- What the launch element gives a device. -/
def G (c : Dev nD) : sProp 𝕄 :=
  iprop((bigSep Finset.univ fun cl : Cl => roundState ER (Rd X) (cell c cl) 0) ∗ (bigSep Finset.univ fun cl : Cl => atPos ER (cell c cl) 0 ∅ 0)
    ∗ (bigSep Finset.univ fun cl : Cl => reached ER (cell c cl) 0) ∗ toks c)

theorem fund_proto : BI.own (ER (initOf protoCells protoToks)) ⊢ (|==> bigSep Finset.univ (G X) : sProp 𝕄) := by
  have hX (Φ : GSem nD τ sig → sProp 𝕄) : bigSep protoCells Φ = bigSep Finset.univ fun c : Dev nD => bigSep Finset.univ fun cl : Cl => Φ (cell c cl) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [BI.bigSep_univ_sum, BI.bigSep_univ_sum]; rfl
  iintro HX
  imod (Rounds.fund ER (Rd X) protoCells protoToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at zero -/

/-- The kernel's own semaphores: all of the program's DMA semaphores. -/
abbrev osem : Fin 136 → SemLoc sig := fun i => .dma i

/-- The kernel's own semaphores by what they are for. -/
def osems : List (Fin 136) :=
  (List.finRange 4).map (fun k => (inS k).sem) ++ (List.finRange 4).map (fun k => (outS k).sem) ++ (Tr.all.map Tr.sS ++ Tr.all.map Tr.rS)

theorem osems_all : Finset.univ = osems.toFinset := by decide +kernel
theorem osems_nodup : osems.Nodup := by decide +kernel

theorem ownSems0_eq (c : Dev nD) : (Pipeline.ownSems0 (Ix := Unit) (Name := ℕ) (U := UU) (Lvl := ℕ) (Val := Elt F) (τ := τ) osem c : sProp 𝕄)
    = iprop(Res X c itSem ∗ (bigSep Finset.univ fun t : Tr => semVal (cell c (.s t)) 0) ∗ bigSep Finset.univ fun t : Tr => semVal (cell c (.r t)) 0) := by
  rw [Pipeline.ownSems0_eq_of_list c osem osems osems_all osems_nodup, sep_all_tr, sep_all_tr]
  unfold osems itSem
  rw [Res_append]
  unfold Res
  simp only [bigSepL_append, bigSepL_map]
  rfl

/-- The barrier semaphore is the one semaphore the launch holds outside the kernel. -/
theorem unscopedSems0_eq (c : Dev nD) : (unscopedSems0 c : sProp 𝕄) = semVal (cell c .bar) 0 := by
  unfold unscopedSems0; rw [bigSep_eq_bigSepL_of_eq [SemLoc.reg barS.sem] (by decide +kernel) (by decide +kernel)]; rfl

/-! ## The invariants -/

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun cl : Cl => iprop(∃ κ : ℕ, cellInv ER (Rd X) κ (cell c cl)))
          ∗ (bigSep Finset.univ fun cl : Cl => reached ER (cell c cl) 0)
          ∗ (bigSep Finset.univ fun cl : Cl => atPos ER (cell c cl) 0 ∅ 0) ∗ toks c ∗ Res X c itSem) := by
  rw [ownSems0_eq X, unscopedSems0_eq]
  unfold G
  iintro ⟨⟨Hsem, Hs, Hr⟩, Hb, Hst, Hat, Hre, Htok⟩
  ihave Hv := (Entails.of_eq (sep_all_cl (fun cl => (semVal (cell c cl) 0 : sProp 𝕄))).symm) $$ [Hs Hr Hb]
  · isplitl [Hb]; · iexact Hb
    isplitl [Hs]; · iexact Hs
    iexact Hr
  imod (show iprop((bigSep Finset.univ fun cl : Cl => semVal (cell c cl) 0) ∗ bigSep Finset.univ fun cl : Cl => roundState ER (Rd X) (cell c cl) 0)
      ⊢ (|={Set.univ}=> bigSep Finset.univ fun cl : Cl => iprop(∃ κ : ℕ, cellInv ER (Rd X) κ (cell c cl)) : sProp 𝕄) from by
        rw [← bigSep_sep']
        exact (bigSep_mono fun k _ => (Rounds.body_intro ER (Rd X) (cell c k)).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok]; · iexact Htok
  iexact Hsem

/-! ## The tokens, dealt to those who pay -/

/-- The tokens of what a device pays. -/
def payToks (c : Dev nD) : sProp 𝕄 :=
  iprop((bigSep Finset.univ fun d : Fin 3 => dutyTok ER (cell (bTgt c d) .bar) 0 d) ∗ (bigSep Finset.univ fun t : Tr => dutyTok ER (cell c (.s t)) 0 0)
    ∗ bigSep Finset.univ fun t : Tr => dutyTok ER (cell (t.tgt c) (.r t)) 0 0)

/-- A family over devices and others, read the other way round and moved along a permutation of the devices. -/
theorem move {T : Type} [Fintype T] (e : T → Dev nD ≃ Dev nD) (Φ : Dev nD → T → sProp 𝕄) :
    (bigSep Finset.univ fun c : Dev nD => bigSep Finset.univ fun t : T => Φ c t)
      = bigSep Finset.univ fun c : Dev nD => bigSep Finset.univ fun t : T => Φ (e t c) t := by
  have sw : ∀ Ψ : Dev nD → T → sProp 𝕄, (bigSep Finset.univ fun c : Dev nD => bigSep Finset.univ fun t : T => Ψ c t)
      = bigSep Finset.univ fun t : T => bigSep Finset.univ fun c : Dev nD => Ψ c t := fun Ψ => by
    rw [← bigSep_univ_prod (fun x : Dev nD × T => Ψ x.1 x.2), ← bigSep_univ_prod (fun x : T × Dev nD => Ψ x.2 x.1),
      bigSep_univ_equiv (Equiv.prodComm T (Dev nD)) (fun x : Dev nD × T => Ψ x.1 x.2)]
    rfl
  rw [sw, sw]
  exact bigSep_congr fun t _ => bigSep_univ_equiv (e t) fun c => Φ c t

def trEquiv (t : Tr) : Dev nD ≃ Dev nD := ⟨fun c => t.tgt c, fun c => t.org c, fun c => t.org_tgt c, fun c => t.tgt_org c⟩
def barEquiv (d : Fin 3) : Dev nD ≃ Dev nD := ⟨fun c => bTgt c d, fun c => bOrg c d, fun c => bOrg_bTgt c d, fun c => bTgt_bOrg c d⟩

theorem toks_dealt : (bigSep Finset.univ fun c : Dev nD => (toks c : sProp 𝕄)) ⊢ bigSep Finset.univ fun c : Dev nD => payToks c := by
  unfold toks payToks
  rw [bigSep_sep', bigSep_sep', bigSep_sep', bigSep_sep', move barEquiv fun c d => (dutyTok ER (cell c .bar) 0 d : sProp 𝕄),
    move trEquiv fun c t => (dutyTok ER (cell c (.r t)) 0 0 : sProp 𝕄)]
  exact Entails.refl _

/-- What a device holds at the end of the launch, beside the shared records. -/
def linear (c : Dev nD) : sProp 𝕄 := iprop((bigSep Finset.univ fun cl : Cl => atPos ER (cell c cl) 0 ∅ 0) ∗ payToks c ∗ Res X c itSem)
def G' (c : Dev nD) : sProp 𝕄 := iprop(∃ K, records X K ∗ linear X c)

theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun cl : Cl => iprop(∃ κ : ℕ, cellInv ER (Rd X) κ (cell c cl)))
          ∗ (bigSep Finset.univ fun cl : Cl => reached ER (cell c cl) 0)
          ∗ (bigSep Finset.univ fun cl : Cl => atPos ER (cell c cl) 0 ∅ 0) ∗ toks c ∗ Res X c itSem) : sProp 𝕄)
      ⊢ bigSep Finset.univ (G' X) := by
  rw [bigSep_sep', bigSep_sep', bigSep_sep', bigSep_sep', ← bigSep_univ_prod (fun ck : Dev nD × Cl => iprop(∃ κ : ℕ, cellInv ER (Rd X) κ (cell ck.1 ck.2))),
    ← bigSep_univ_prod (fun ck : Dev nD × Cl => (reached ER (cell ck.1 ck.2) 0 : sProp 𝕄))]
  iintro ⟨HI, #HR, Hat, Htok, Hsem⟩
  ihave HK := (BI.bigSep_exists_pi Finset.univ (fun (ck : Dev nD × Cl) (κ : ℕ) => (cellInv ER (Rd X) κ (cell ck.1 ck.2) : sProp 𝕄))) $$ HI
  icases HK with ⟨%K, #HI⟩
  ihave Htk := (toks_dealt (F := F)) $$ Htok
  iapply (share_out (R := records X K) (Φ := linear X) fun c _ => show iprop(records X K ∗ linear X c) ⊢ G' X c from by
    unfold G'; iintro H; iexists K; iexact H)
  isplitr
  · unfold records; isplitl; · iexact HI
    iexact HR
  unfold linear
  rw [bigSep_sep', bigSep_sep']
  isplitl [Hat]; · iexact Hat
  isplitl [Htk]; · iexact Htk
  iexact Hsem

/-- All the devices' semaphores at zero and their parts of the launch element become what each device starts from. -/
theorem glob : (bigSep Finset.univ fun c => iprop(Pipeline.ownSems0 (Ix := Unit) (Name := ℕ) (U := UU) (Lvl := ℕ) (Val := Elt F) (τ := τ) osem c
      ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The items dealt -/

/-- The roles of a device's three entry signals, as a permutation. -/
def roleEquiv (c : Dev nD) : Fin 3 ≃ Fin 3 :=
  Equiv.ofBijective (role c) (Finite.injective_iff_bijective.mp fun i j h => role_inj c i j h)

/-- A device's own landing buffer is what its entry signal of that role hands over. -/
theorem barP_own (c : Dev nD) (d : Fin 3) : (bigSep Finset.univ fun k : Fin (bufOf d).n => rawP (F := F) c (bufOf d) k) = barP (F := F) (bTgt c d) d := by
  unfold barP; rw [bOrg_bTgt]

/-- Positions, tokens and the device's landing buffers make up the items the launch deals. -/
theorem ghost_items (c : Dev nD) :
    iprop((bigSep Finset.univ fun cl : Cl => atPos ER (cell c cl) 0 ∅ 0) ∗ payToks c
        ∗ (bigSep Finset.univ fun k : Fin 22 => rawP (F := F) c .y k) ∗ (bigSep Finset.univ fun k : Fin 21 => rawP (F := F) c .l k)
        ∗ (bigSep Finset.univ fun k : Fin 21 => rawP (F := F) c .r k))
      ⊢ Res X c itGhost := by
  have hb : iprop((bigSep Finset.univ fun d : Fin 3 => dutyTok ER (cell (bTgt c d) .bar) 0 d)
        ∗ (bigSep Finset.univ fun k : Fin 22 => rawP (F := F) c .y k) ∗ (bigSep Finset.univ fun k : Fin 21 => rawP (F := F) c .l k)
        ∗ (bigSep Finset.univ fun k : Fin 21 => rawP (F := F) c .r k))
      ⊢ Res X c [.btok 0, .btok 1, .btok 2] := by
    have e0 : (bigSep Finset.univ fun k : Fin 22 => rawP (F := F) c .y k) = barP (F := F) (bTgt c 0) 0 := barP_own c 0
    have e1 : (bigSep Finset.univ fun k : Fin 21 => rawP (F := F) c .l k) = barP (F := F) (bTgt c 1) 1 := barP_own c 1
    have e2 : (bigSep Finset.univ fun k : Fin 21 => rawP (F := F) c .r k) = barP (F := F) (bTgt c 2) 2 := barP_own c 2
    have e3 : (Res X c [.btok 0, .btok 1, .btok 2]) = bigSep Finset.univ fun d : Fin 3 => iprop(dutyTok ER (cell (bTgt c d) .bar) 0 d ∗ barP (F := F) (bTgt c d) d) := by
      rw [bigSep_univ_equiv (roleEquiv c), bigSep_univ_eq_bigSepL [(0 : Fin 3), 1, 2] (by decide) (by decide)]
      rfl
    rw [e0, e1, e2, e3, bigSep_sep']
    refine sep_mono_right ?_
    rw [bigSep_univ_eq_bigSepL [(0 : Fin 3), 1, 2] (by decide) (by decide) fun d => barP (F := F) (bTgt c d) d]
    exact Entails.refl _
  have he : Res X c itGhost = iprop(Res X c [.btok 0, .btok 1, .btok 2] ∗ atPos ER (cell c .bar) 0 ∅ 0
      ∗ ((bigSep Finset.univ fun t : Tr => iprop(dutyTok ER (cell c (.s t)) 0 0 ∗ dutyTok ER (cell (t.tgt c) (.r t)) 0 0))
        ∗ (bigSep Finset.univ fun t : Tr => atPos ER (cell c (.r t)) 0 ∅ 0)) ∗ bigSep Finset.univ fun t : Tr => atPos ER (cell c (.s t)) 0 ∅ 0) := by
    unfold itGhost
    rw [Res_append, show Res X c (.bpos :: (Tr.all.map .tok ++ Tr.all.map .rpos ++ Tr.all.map .spos))
        = iprop(atPos ER (cell c .bar) 0 ∅ 0 ∗ Res X c (Tr.all.map .tok ++ Tr.all.map .rpos ++ Tr.all.map .spos)) from bigSepL_cons _ _ _,
      Res_append, Res_append, Res_tr, Res_tr, Res_tr]
    rfl
  rw [he, sep_all_cl, bigSep_sep']
  unfold payToks
  iintro ⟨⟨Hb, Hs, Hr⟩, ⟨Htb, Hts, Htr⟩, Hy, Hl, Hrr⟩
  isplitl [Htb Hy Hl Hrr]
  · iapply hb
    isplitl [Htb]; · iexact Htb
    isplitl [Hy]; · iexact Hy
    isplitl [Hl]; · iexact Hl
    iexact Hrr
  isplitl [Hb]; · iexact Hb
  isplitl [Hts Htr Hr]
  · isplitl [Hts Htr]
    · isplitl [Hts]; · iexact Hts
      iexact Htr
    iexact Hr
  iexact Hs

end Cert.KernelIdeal.K5

end
-- ==== Proof.KernelIdeal.Launch.lean ====
/-
# The run

Every weakly fair execution of the program, from any memory with all semaphores at zero, ends; the argument is then
unchanged, each piece of each device's result holds its sum, and every semaphore is at zero.
-/
module

public import proofs.«01_k».proof.Proof.KernelIdeal.Deal
public import Idealize.ShloMosaic.Lib.Pipeline.CollectiveSegs
public import Idealize.ShloMosaic.Lib.Quiescent

@[expose] public section

noncomputable section

namespace Cert.KernelIdeal.K5

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {F : FTy → Type} [FloatOps F]

local notation "𝕄" => MT nD τ sig Unit (Elt F) ℕ UU ℕ

section
variable (X : Args F)

/-- What a device's body starts from, beside its scratch buffers. -/
def start (c : Dev nD) : sProp 𝕄 :=
  iprop(G' X c ∗ Res X c itCred ∗ levAts L lv ∗ ((c : Thread nD τ).loc main_arg0 ↦{fullShare} X c)
    ∗ ∃ f : Buf (Elt F) ((c : Thread nD τ).loc main_v1), (c : Thread nD τ).loc main_v1 ↦{fullShare} f)

/-- What it ends with: the barrier semaphore at zero, the argument, and the result. -/
def finish (c : Dev nD) : sProp 𝕄 :=
  iprop(unscopedSems0 c ∗ ((c : Thread nD τ).loc main_arg0 ↦{fullShare.right} X c)
    ∗ ∃ g : Buf (Elt F) ((c : Thread nD τ).loc main_v1), ⌜OutOk X c g⌝ ∗ (c : Thread nD τ).loc main_v1 ↦{fullShare} g)

def Φ₀ (c : Dev nD) : sProp 𝕄 := iprop(start X c ∗ Pipeline.scopedRest cfg0.spec c)
def Φ₁ (c : Dev nD) : sProp 𝕄 := iprop(finish X c ∗ Pipeline.ownSems0 osem c ∗ Pipeline.scopedRest cfg0.spec c)

/-- The items a device's body starts from. -/
theorem items_before (K : Dev nD × Cl → ℕ) (c : Dev nD) :
    iprop(linear X c ∗ Res X c itCred ∗ ((c : Thread nD τ).loc main_arg0 ↦{fullShare} X c)
        ∗ (∃ f : Buf (Elt F) ((c : Thread nD τ).loc main_v1), (c : Thread nD τ).loc main_v1 ↦{fullShare} f) ∗ Pipeline.scopedRest cfg0.spec c)
      ⊢ Res X c itemsBefore := by
  unfold itemsBefore linear
  rw [Res_append, Res_append, Res_append, Res_append, Res_append, scopedRest0_eq]
  iintro ⟨⟨Hat, Htok, Hsem⟩, Hcr, Hx, ⟨%fo, Ho⟩, ⟨%f0, H0⟩, ⟨%f1, H1⟩, ⟨%f2, H2⟩, ⟨%f3, H3⟩⟩
  isplitr [Ho]
  · isplitr [H3]
    · isplitr [Hx]
      · isplitr [Hsem]
        · isplitr [Hcr]
          · iapply (ghost_items X c)
            isplitl [Hat]; · iexact Hat
            isplitl [Htok]; · iexact Htok
            isplitl [H0]; · iapply (raw_cut c .y f0); iexact H0
            isplitl [H1]; · iapply (raw_cut c .l f1); iexact H1
            iapply (raw_cut c .r f2); iexact H2
          iexact Hcr
        iexact Hsem
      iapply (x_cut X c); iexact Hx
    iapply (free_cut X c f3); iexact H3
  iapply (out_cut X c fo); iexact Ho

/-- The semaphores the body leaves, all at zero. -/
theorem zero_items (c : Dev nD) : iprop(Res X c itZero ∗ Res X c itSem) ⊢ iprop(unscopedSems0 c ∗ Pipeline.ownSems0 osem c) := by
  rw [ownSems0_eq X, unscopedSems0_eq]
  have e : Res X c itZero = iprop(semVal (cell c .bar) 0 ∗ (bigSep Finset.univ fun t : Tr => semVal (cell c (.r t)) 0)
      ∗ bigSep Finset.univ fun t : Tr => semVal (cell c (.s t)) 0) := by
    unfold itZero
    rw [show Res X c (.bz :: (Tr.all.map .rz ++ Tr.all.map .sz)) = iprop(semVal (cell c .bar) 0 ∗ Res X c (Tr.all.map .rz ++ Tr.all.map .sz)) from bigSepL_cons _ _ _,
      Res_append, Res_tr, Res_tr]
    rfl
  rw [e]
  iintro ⟨⟨Hb, Hr, Hs⟩, Hsem⟩
  isplitl [Hb]; · iexact Hb
  isplitl [Hsem]; · iexact Hsem
  isplitl [Hs]; · iexact Hs
  iexact Hr

/-- The items it leaves. -/
theorem items_after (c : Dev nD) : Res X c itemsAfter ⊢ Φ₁ X c := by
  unfold itemsAfter Φ₁ finish
  rw [Res_append, Res_append, Res_append, Res_append, Res_append, Res_append, Res_append, scopedRest0_eq]
  iintro ⟨⟨⟨⟨⟨Hz, Hsem⟩, Hx⟩, Hf⟩, Ho⟩, ⟨Hy, Hl⟩, Hr⟩
  ihave Hz := (zero_items X c) $$ [Hz Hsem]
  · isplitl [Hz]; · iexact Hz
    iexact Hsem
  icases Hz with ⟨Hu, Hos⟩
  isplitl [Hu Hx Ho]
  · isplitl [Hu]; · iexact Hu
    isplitl [Hx]; · iapply (x_join X c); iexact Hx
    iapply (out_join X c (X c)); iexact Ho
  isplitl [Hos]; · iexact Hos
  isplitl [Hy]; · iexists (BB X c .y); iapply (ch_join X c .y); iexact Hy
  isplitl [Hl]; · iexists (BB X c .l); iapply (ch_join X c .l); iexact Hl
  isplitl [Hr]; · iexists (BB X c .r); iapply (ch_join X c .r); iexact Hr
  iapply (free_join X c (fun _ => X c fun a => match a with | 0 => ⟨0, by decide⟩ | 1 => ⟨0, by decide⟩)); iexact Hf

end

variable (m : (ℓ : Loc nD τ sig) → Buf (Elt F) ℓ) (ρ : Dev nD → PrngReg)

/-- The arguments in a memory. -/
def argsOf : Args F := fun c => m ((c : Thread nD τ).loc main_arg0)

def dats (_ : Fin 1) (c : Dev nD) : Dat τ (Elt F) Unit ℕ UU ℕ cfg0 c where
  A w := w.elim0
  after w := w.elim0
  Φ t := match t with
    | ⟨0, _⟩ => Φ₀ (argsOf m) c
    | ⟨_ + 1, _⟩ => Φ₁ (argsOf m) c
  q w := w.elim0
  owed t := match t with
    | ⟨0, _⟩ => O₀ c
    | ⟨_ + 1, _⟩ => 0

theorem body_from (c : Dev nD) :
    iprop(Φ₀ (argsOf m) c ∗ (dats m 0 c).owesAt () t0_0.castSucc ∗ emp)
      ⊢ wp frame (wpE (defs₀ (F := F)) 𝒱₀ (c : Thread nD τ) none) Set.univ bodyK
        fun _ => iprop(Φ₁ (argsOf m) c ∗ (dats m 0 c).owesAt () t0_0.succ ∗ emp) := by
  unfold Φ₀ start G'
  iintro ⟨⟨⟨⟨%K, #HR, Hlin⟩, Hcr, #Hlev, Hx, Ho⟩, Hsc⟩, ⟨%W, %hW, HO⟩, -⟩
  iapply (body_sound (argsOf m) K c _) $$ [Hlin Hcr Hx Ho Hsc HO]
  · isplitr; · iexact HR
    isplitr; · iexact Hlev
    isplitr [HO]
    · iapply (items_before (argsOf m) K c)
      isplitl [Hlin]; · iexact Hlin
      isplitl [Hcr]; · iexact Hcr
      isplitl [Hx]; · iexact Hx
      isplitl [Ho]; · iexact Ho
      iexact Hsc
    unfold ow
    iexists W; iexact HO
  unfold ow
  iintro ⟨Hres, ⟨%W', HO⟩⟩
  isplitl [Hres]; · iapply (items_after (argsOf m) c); iexact Hres
  isplitl [HO]
  · iexists W'
    isplitr; · ipureintro; exact fun _ _ => Or.inl trivial
    iexact HO
  iempintro

set_option maxRecDepth 8000 in
theorem body_obligation (c : Dev nD) : BodyObligation (dats (F := F) m 0 c) (defs₀ (F := F)) 𝒱₀ () Set.univ := fun t => by
  rw [fin_N0 t]
  simp only [show (Finset.univ : Finset (Fin cfg0.W)) = ∅ from rfl, bigSep_empty]
  have e0 : (dats m 0 c).Φ t0_0.castSucc = Φ₀ (argsOf m) c := rfl
  have e1 : (dats m 0 c).Φ t0_0.succ = Φ₁ (argsOf m) c := rfl
  have e2 : defs₀ (F := F) Proc.tc 0 (t0_0, cfg0.slots t0_0) = bodyK := rfl
  rw [e0, e1, e2]
  have h := body_from m c
  generalize bodyK (F := F) = b at h ⊢
  exact h

theorem ownSemFacts : Pipeline.OwnSemFacts cfg0.spec osem := by decide +kernel

/-- What a device starts from, out of what the launch holds for it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start (argsOf m) c ∗ emp) := by
  rw [Pipeline.unscopedRestP_none, unscopedRest0_eq]
  unfold start
  iintro ⟨⟨Hx, Ho⟩, Hlev, Hcr, -, HG⟩
  ihave Hcr := (creds (argsOf m) c) $$ Hcr
  imodintro
  isplitl
  · isplitl [HG]; · iexact HG
    isplitl [Hcr]; · iexact Hcr
    isplitl [Hlev]; · iexact Hlev
    isplitl [Hx]; · iexact Hx
    iexists _; iexact Ho
  iempintro

/-- What a memory holds at the end, on a device. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ OutOk (argsOf m) c (s.mem ((c : Thread nD τ).loc main_v1))

theorem read_end (c : Dev nD) (s' : Phys nD τ sig (Elt F)) :
    iprop(finish (argsOf m) c ∗ emp ∗ SI s') ⊢ |={Set.univ}=> iprop(⌜Ends m c s'.mem⌝ ∗ SI s') := by
  unfold finish
  iintro ⟨⟨Hu, Hx, ⟨%g, %hg, Ho⟩⟩, -, HSI⟩
  ihave %h1 := (SI_pointsTo_agree (st := s') (ℓ := (c : Thread nD τ).loc main_arg0) (I := Finset.univ) (q := fullShare.right) (f := argsOf m c)) $$ [HSI Hx]
  · isplitl [HSI]; · iexact HSI
    iexact Hx
  ihave %h2 := (SI_pointsTo_agree (st := s') (ℓ := (c : Thread nD τ).loc main_v1) (I := Finset.univ) (q := fullShare) (f := g)) $$ [HSI Ho]
  · isplitl [HSI]; · iexact HSI
    iexact Ho
  imod (Pipeline.unscopedSems0_read (X := unscopedSems0 c) (c := c) fupd_intro s') $$ [Hu HSI] with ⟨%h3, HSI⟩
  · isplitl [Hu] <;> iassumption
  imodintro
  isplitr
  · ipureintro
    refine ⟨h3, funext fun i => h1 i (Finset.mem_univ i), ?_⟩
    rw [show s'.mem.mem ((c : Thread nD τ).loc main_v1) = g from funext fun i => h2 i (Finset.mem_univ i)]
    exact hg
  iexact HSI

set_option maxRecDepth 8000 in
/-- The run of the program. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G (argsOf m)) (G' := G' (argsOf m)) (u₀ := u₀)
    (hu₀ := by
      unfold u₀
      iintro Hu
      ihave H := (launch_split _ _) $$ Hu
      icases H with ⟨HP, HX⟩
      imod (fund_proto (argsOf m)) $$ HX with HG
      imodintro
      isplitl [HP] <;> iassumption)
    (hglob := glob (argsOf m))
    (hA := fun _ w => w.elim0) (hpf := fun _ k => k.elim0)
    (X := start (argsOf m)) (Y := finish (argsOf m)) (Z := fun _ => iprop(emp))
    (hX := start_intro m ρ)
    (hin := fun c => by
      show iprop(start (argsOf m) c ∗ _ ∗ Pipeline.scopedRest cfg0.spec c) ⊢ Φ₀ (argsOf m) c
      unfold Φ₀
      iintro ⟨Hs, -, Hr⟩
      isplitl [Hs] <;> iassumption)
    (hout := fun c => Entails.refl _)
    (QY := Ends m) (hY := read_end m)
    (hQ := fun _ h hs => ⟨fun c => (h c).2.2, sem_eq_zero hs fun c => (h c).2.2.1⟩)

end Cert.KernelIdeal.K5

end
-- ==== Proof.KernelIdeal.Value.lean ====
/-
# What the result holds

The two halves of the whole array lie on the devices of the two values of y. Every landed row is a row of the other half,
taken at the place where it is added; so each device ends with the sum of the two halves. The statements here are about
the contents only, and hold whatever the elements are.
-/
module

public import proofs.«01_k».proof.Proof.KernelIdeal.Memory

@[expose] public section

noncomputable section

namespace Cert.KernelIdeal.K5

open Cert.KernelIdeal Cert.KernelIdeal.Gen
open Idealize.ShloMosaic Idealize.ShloMosaic.TcCoe Idealize.SL Idealize.SL.Sem

variable {F : FTy → Type} [FloatOps F]

/-- Row `i`, column `j` of half `h` of the whole array. -/
def part (V : (Sh 16384).Idx → Elt F .f32) (h i j : ℕ) : Elt F .f32 := V (ix 16384 (by decide) (8192 * h + i) j)

/-- Each device's argument is its half of the whole array. -/
def Cut (X : Args F) (V : (Sh 16384).Idx → Elt F .f32) : Prop :=
  ∀ (d : Dev nD) (i : S8192x1024.Idx), X d i = part V (half d) (i 0).val (i 1).val

variable {X : Args F} {V : (Sh 16384).Idx → Elt F .f32}

theorem Cut.xat_eq (hX : Cut X V) (d : Dev nD) {i j : ℕ} (hi : i < 8192) (hj : j < 1024) : xat X d i j = part V (half d) i j := by
  rw [xat, hX d]
  show part V (half d) (i % 8192) (j % 1024) = _
  rw [Nat.mod_eq_of_lt hi, Nat.mod_eq_of_lt hj]

theorem yrow_lt (c : Dev nD) (k : ℕ) (hk : k < 2816) : yrow c k < 8192 := by
  unfold yrow; split_ifs <;> omega

/-- The exchange buffer of a device holds rows of the other half. -/
theorem Cut.yv_eq (hX : Cut X V) (c : Dev nD) {k j : ℕ} (hk : k < 2816) (hj : j < 1024) : yv X c k j = part V (1 - half c) (yrow c k) j := by
  rw [yv, hX.xat_eq _ (yrow_lt c k hk) hj, half_partner]

/-- So does each landing buffer, at the rows of the piece it serves. -/
theorem Cut.bval_eq (hX : Cut X V) (c : Dev nD) (p : Pc) {k j : ℕ} (hk : k < p.h) (hj : j < 1024) :
    bval X c p.buf (128 * p.at + k) j = part V (1 - half c) (p.row c + k) j := by
  have hr := ring_lt c
  rcases p with ⟨i, q⟩ | i <;> fin_cases i <;> try fin_cases q
  all_goals
    simp only [Pc.h] at hk
    dsimp only [Pc.buf, Pc.at, bval, lv', rv]
    (repeat' split) <;> first
      | omega
      | (rw [hX.yv_eq _ (by omega) hj]
         simp only [half_right, half_left, yrow, ring_right, ring_left, Pc.row, Pc.i, Pc.o]
         congr 1
         split_ifs <;> omega)

/-- The index in the whole buffer of an element of a piece. -/
def oAt (c : Dev nD) (p : Pc) (x : (Sh p.h).Idx) : S8192x1024.Idx := (oPc c p).view.emb x

theorem oAt_row (c : Dev nD) (p : Pc) (x : (Sh p.h).Idx) : (oAt c p x 0).val = p.row c + (x 0).val := by
  show p.off c 0 + 1 * (x 0).val = _
  rw [p.off_eq c, Nat.one_mul]; rfl
theorem oAt_col (c : Dev nD) (p : Pc) (x : (Sh p.h).Idx) : (oAt c p x 1).val = (x 1).val := by
  show p.off c 1 + 1 * (x 1).val = _
  rw [p.off_eq c, Nat.one_mul]; exact Nat.zero_add _

theorem exists_oAt (c : Dev nD) (i : S8192x1024.Idx) : ∃ p x, oAt c p x = i := by
  obtain ⟨p, -, hp⟩ := Finset.mem_biUnion.mp ((pc_cover c).symm ▸ Finset.mem_univ i)
  obtain ⟨x, -, hx⟩ := Finset.mem_map.mp hp
  exact ⟨p, x, hx⟩

/-- Where every piece of the result holds its sum: an element of the result is the device's own element there plus the
landed one. -/
theorem OutOk.at {c : Dev nD} {g : Buf (Elt F) ((c : Thread nD τ).loc main_v1)} (hg : OutOk X c g) (p : Pc) (x : (Sh p.h).Idx) :
    g (oAt c p x) = FloatOps.addf (X c (oAt c p x)) (landed X c p x) :=
  congrFun (hg p) x

/-- Hence every element of the result is the sum of the device's own half of the whole array and of the other half, at
that place. -/
theorem Cut.sum_eq (hX : Cut X V) (c : Dev nD) {g : Buf (Elt F) ((c : Thread nD τ).loc main_v1)} (hg : OutOk X c g) (i : S8192x1024.Idx) :
    g i = FloatOps.addf (part V (half c) (i 0).val (i 1).val) (part V (1 - half c) (i 0).val (i 1).val) := by
  obtain ⟨p, x, rfl⟩ := exists_oAt c i
  rw [hg.at p x, landed, hX.bval_eq c p (x 0).isLt (x 1).isLt, hX c, oAt_row, oAt_col]

end Cert.KernelIdeal.K5

end
-- ==== Proof.Value.lean ====
/-
# The kernel's result and the reference's

The reference folds the whole array's two halves together by one sum over an axis of two; a device of the kernel adds the
other half to its own. Over the extended reals the order of two summands does not matter, so the results agree.
-/
module

public import proofs.«01_k».proof.Proof.KernelIdeal.Launch
public import proofs.«01_k».proof.Proof.KernelIdeal.Value
public import proofs.«01_k».proof.Proof.Gen.ReferenceIdeal
public import Idealize.ShloMosaic.Lib.Layout
public import Idealize.ShloMosaic.Lib.Pipeline.Value
public import Idealize.ShloMosaic.Lib.Pointwise

@[expose] public section

noncomputable section

namespace Cert.Proof

open Cert.KernelIdeal.K5
open Idealize.ShloMosaic Idealize.ShloMosaic.TcCoe Idealize.SL.Sem

/-- The whole array, over the extended reals. -/
abbrev Whole := (Sh 16384).Idx → Elt Ideal .f32

/-- What the reference computes of the whole array. -/
def folded (V : Whole) : FVec Ideal Cert.ReferenceIdeal.S8192x1024 .f32 :=
  Host.reduceAdd (shapeCast Cert.ReferenceIdeal.S2x8192x1024 (V : FVec Ideal Cert.ReferenceIdeal.S16384x1024 .f32) Cert.ReferenceIdeal.Gen.shapeCasts_S16384x1024_S2x8192x1024)
    (constant Cert.ReferenceIdeal.S_ .f32 0x00000000#32) Cert.ReferenceIdeal.Gen.reducesTo_S2x8192x1024_S8192x1024_d0
    Cert.ReferenceIdeal.Gen.h_S_

/-- The whole array reshaped: half `h`, at row `i` and column `j`. -/
theorem reshaped (V : Whole) (h : Fin 2) (i : Fin 8192) (j : Fin 1024) :
    shapeCast Cert.ReferenceIdeal.S2x8192x1024 V Cert.ReferenceIdeal.Gen.shapeCasts_S16384x1024_S2x8192x1024 (ix3 h i j) = part V h.val i.val j.val := by
  refine shapeCast_apply V _ _ _ ?_
  rw [Shape.rowMajor_val_two, Shape.rowMajor_val_three]
  show (8192 * h.val + i.val) % 16384 * 1024 + j.val % 1024 = (h.val * 8192 + i.val) * 1024 + j.val
  omega

/-- An element of the reference's result is the sum of the two halves at that place. -/
theorem folded_eq (V : Whole) (i : Cert.ReferenceIdeal.S8192x1024.Idx) :
    folded V i = (part V 0 (i 0).val (i 1).val + part V 1 (i 0).val (i 1).val : EReal) := by
  unfold folded Host.reduceAdd
  rw [Ideal.hostReduceAdd_def, Ideal.hostReduceAdd_r3_a0]
  rw [Fin.sum_univ_two]
  exact (congrArg (· + _) Ideal.ofBits_zero_f32).trans ((zero_add _).trans
    (congrArg₂ (fun a b : EReal => a + b) (reshaped V 0 _ _) (reshaped V 1 _ _)))

/-- A memory of the kernel whose arguments are the blocks of the whole array holds its halves. -/
theorem cut_of_blocks (V : Whole) {X : Args Ideal}
    (h : ∀ c, X c = Layout.blockN ⟨2, ![8192, 1024]⟩ ⟨2, ![16384, 1024]⟩ (Layout.meshBlock [2, 2, 4] ![[1], []] c) V) : Cut X V := by
  intro d i
  rw [h d, Layout.blockN_apply, part]
  congr 1
  refine ix_eq (n := 16384) _ _ ?_ ?_
  · show (d.val / 4 % 2 * 1 + 0) * 8192 + (i 0).val = 8192 * (d.val / 4 % 2) + (i 0).val
    omega
  · show 0 * 1024 + (i 1).val = (i 1).val
    omega

/-- What each device of the kernel ends with is what the reference computes. -/
theorem result_eq (V : Whole) {X : Args Ideal} (hX : Cut X V) (c : Dev Cert.KernelIdeal.nD)
    {g : Buf (Elt Ideal) ((c : Thread Cert.KernelIdeal.nD Cert.KernelIdeal.τ).loc Cert.KernelIdeal.main_v1)} (hg : OutOk X c g) : g = folded V := by
  funext i
  rw [hX.sum_eq c hg i]
  refine Eq.trans ?_ (folded_eq V i).symm
  have := half_lt c
  rcases (by omega : half c = 0 ∨ half c = 1) with e | e <;> rw [e]
  · rfl
  · exact add_comm (part V 1 _ _ : EReal) _

end Cert.Proof

end
-- ==== Proof.lean ====
/-
# The proof of `Cert.Claim`

The program printed for machine floats and the one printed for extended reals are the same text, so one proof of the run,
`Cert.KernelIdeal.K5.run_main`, generic in the element type, serves both. The run says that every counter ends at zero,
that the arguments end unchanged, and that each piece of the result holds the device's own rows plus the landed ones; the
value claim compares these with what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel over machine floats ends, its arguments unchanged and its counters at zero. -/
theorem frame_kernel : Cert.quiescent_Kernel (hKernel := Cert.Kernel.Gen.facts) := fun m g _ =>
  (θ_run _ _ _).mono (fun _ h => ⟨fun c => (h.1 c).2.1, h.2⟩) (Cert.KernelIdeal.K5.run_main (F := Bits) m g)

/-- The kernel over extended reals ends, its arguments unchanged and its counters at zero. -/
theorem frame_ideal : Cert.quiescent_KernelIdeal (hKernelIdeal := Cert.KernelIdeal.Gen.facts) := fun m g _ =>
  (θ_run _ _ _).mono (fun _ h => ⟨fun c => (h.1 c).2.1, h.2⟩) (Cert.KernelIdeal.K5.run_main (F := Ideal) m g)

/-- The reference ends, its argument unchanged and its counters at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- Each device of the kernel ends with the reference's result. -/
theorem algebraic : Cert.algebraic_KernelIdeal_ReferenceIdeal (hKernelIdeal := Cert.KernelIdeal.Gen.facts)
    (hReferenceIdeal := Cert.ReferenceIdeal.Gen.facts) := fun m g m' g' _ hm =>
  ⟨folded (m' ((0 : Dev Cert.ReferenceIdeal.nD).tc.loc Cert.ReferenceIdeal.main_arg0)),
    (θ_run _ _ _).mono (fun _ h c => ⟨result_eq _ (cut_of_blocks _ hm) c (h.1 c).2.2, (h.1 c).2.1⟩)
      (Cert.KernelIdeal.K5.run_main (F := Ideal) m g),
    (θ_run _ _ _).mono (fun _ h => h 0) (Cert.ReferenceIdeal.Value.run m' g')⟩

/-- Everything the certificate claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
